-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_of_four [hPre_two_of_four : Cert.Pre_two_of_four.Facts] (m : (ℓ : Loc Cert.KernelIdeal.nD Cert.KernelIdeal.τ Cert.KernelIdeal.sig) → Buf (Elt Ideal) ℓ) : Prop :=
  ∀ c : Dev Cert.KernelIdeal.nD,
    (Cert.Pre_two_of_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_of_four [hPre_two_of_four : Cert.Pre_two_of_four.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_of_four.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_of_four [hKernelIdeal : Cert.KernelIdeal.Facts] [hPre_two_of_four : Cert.Pre_two_of_four.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_of_four m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_of_four [hReferenceIdeal : Cert.ReferenceIdeal.Facts] [hPre_two_of_four : Cert.Pre_two_of_four.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_of_four m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S2x512 Cert.KernelIdeal.S1x512
  ∧ IdealRules.bf16_pair.Statement Cert.KernelIdeal.S16x512 Cert.KernelIdeal.S8x512

def algebraic_KernelIdeal_ReferenceIdeal_pre_two_of_four [hKernelIdeal : Cert.KernelIdeal.Facts] [hReferenceIdeal : Cert.ReferenceIdeal.Facts] [hPre_two_of_four : Cert.Pre_two_of_four.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_of_four m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_of_four : Cert.Pre_two_of_four.Facts),
    quiescent_Kernel (hKernel := hKernel)
    ∧ quiescent_KernelIdeal (hKernelIdeal := hKernelIdeal)
    ∧ quiescent_KernelIdeal_pre_two_of_four (hKernelIdeal := hKernelIdeal) (hPre_two_of_four := hPre_two_of_four)
    ∧ quiescent_ReferenceIdeal (hReferenceIdeal := hReferenceIdeal)
    ∧ quiescent_ReferenceIdeal_pre_two_of_four (hReferenceIdeal := hReferenceIdeal) (hPre_two_of_four := hPre_two_of_four)
    ∧ preserves_Kernel_KernelIdeal
    ∧ algebraic_KernelIdeal_ReferenceIdeal_pre_two_of_four (hKernelIdeal := hKernelIdeal) (hReferenceIdeal := hReferenceIdeal) (hPre_two_of_four := hPre_two_of_four)
-- ==== Pre_two_of_four.lean ====
abbrev S6x1x12288 : Shape := ⟨3, ![6, 1, 12288]⟩
abbrev S3072x28672 : Shape := ⟨2, ![3072, 28672]⟩
abbrev S1536x28672 : Shape := ⟨2, ![1536, 28672]⟩
abbrev S96x28672 : Shape := ⟨2, ![96, 28672]⟩
abbrev S_ : Shape := ⟨0, ![]⟩

class Facts : Prop where
  natLt_8_32 : 8 < 32
  bcast_S_S1536x28672 : S_.BroadcastsInDim S1536x28672 (![] : Fin 0 → Fin S1536x28672.rank)

variable [Facts]

def fn_part2 {F : FTy → Type} [FloatOps F] (main_v17 : IVec S1536x28672 32) (main_v31 : IVec S1536x28672 32) (main_v33 : IVec S1536x28672 32) : IVec S1536x28672 1 :=
  let main_c_13 : IVec S_ 32 := constantI S_ 32 1#32
  let main_v34 : IVec S1536x28672 32 := broadcastInDim S1536x28672 ![] bcast_S_S1536x28672 main_c_13
  let main_v35 : IVec S1536x28672 32 := andi main_v33 main_v34
  let main_v36 : IVec S1536x28672 32 := addi main_v31 main_v35
  let main_c_14 : IVec S_ 32 := constantI S_ 32 2#32
  let main_v37 : IVec S1536x28672 32 := broadcastInDim S1536x28672 ![] bcast_S_S1536x28672 main_c_14
  let main_v38 : IVec S1536x28672 1 := cmpi .eq main_v17 main_v37
  let main_c_15 : IVec S_ 32 := constantI S_ 32 2#32
  let main_v39 : IVec S1536x28672 32 := broadcastInDim S1536x28672 ![] bcast_S_S1536x28672 main_c_15
  let main_v40 : IVec S1536x28672 1 := cmpi .eq main_v36 main_v39
  let main_v41 : IVec S1536x28672 1 := andi main_v38 main_v40
  main_v41

def fn_part1 {F : FTy → Type} [FloatOps F] (main_v0 : IVec S1536x28672 32) (main_v12 : IVec S1536x28672 32) (main_v16 : IVec S1536x28672 32) : IVec S1536x28672 1 :=
  let main_v17 : IVec S1536x28672 32 := addi main_v12 main_v16
  let main_c_6 : IVec S_ 32 := constantI S_ 32 4#32
  let main_v18 : IVec S1536x28672 32 := broadcastInDim S1536x28672 ![] bcast_S_S1536x28672 main_c_6
  let main_v19 : IVec S1536x28672 32 := Host.shrsi main_v0 main_v18
  let main_c_7 : IVec S_ 32 := constantI S_ 32 1#32
  let main_v20 : IVec S1536x28672 32 := broadcastInDim S1536x28672 ![] bcast_S_S1536x28672 main_c_7
  let main_v21 : IVec S1536x28672 32 := andi main_v19 main_v20
  let main_c_8 : IVec S_ 32 := constantI S_ 32 5#32
  let main_v22 : IVec S1536x28672 32 := broadcastInDim S1536x28672 ![] bcast_S_S1536x28672 main_c_8
  let main_v23 : IVec S1536x28672 32 := Host.shrsi main_v0 main_v22
  let main_c_9 : IVec S_ 32 := constantI S_ 32 1#32
  let main_v24 : IVec S1536x28672 32 := broadcastInDim S1536x28672 ![] bcast_S_S1536x28672 main_c_9
  let main_v25 : IVec S1536x28672 32 := andi main_v23 main_v24
  let main_v26 : IVec S1536x28672 32 := addi main_v21 main_v25
  let main_c_10 : IVec S_ 32 := constantI S_ 32 6#32
  let main_v27 : IVec S1536x28672 32 := broadcastInDim S1536x28672 ![] bcast_S_S1536x28672 main_c_10
  let main_v28 : IVec S1536x28672 32 := Host.shrsi main_v0 main_v27
  let main_c_11 : IVec S_ 32 := constantI S_ 32 1#32
  let main_v29 : IVec S1536x28672 32 := broadcastInDim S1536x28672 ![] bcast_S_S1536x28672 main_c_11
  let main_v30 : IVec S1536x28672 32 := andi main_v28 main_v29
  let main_v31 : IVec S1536x28672 32 := addi main_v26 main_v30
  let main_c_12 : IVec S_ 32 := constantI S_ 32 7#32
  let main_v32 : IVec S1536x28672 32 := broadcastInDim S1536x28672 ![] bcast_S_S1536x28672 main_c_12
  let main_v33 : IVec S1536x28672 32 := Host.shrsi main_v0 main_v32
  fn_part2 (F := F) main_v17 main_v31 main_v33

def fn {F : FTy → Type} [FloatOps F] (main_arg0 : FVec F S6x1x12288 .bf16) (main_arg1 : IVec S3072x28672 8) (main_arg2 : IVec S1536x28672 8) (main_arg3 : FVec F S96x28672 .bf16) : IVec S1536x28672 1 :=
  let main_v0 : IVec S1536x28672 32 := (extui 32 · natLt_8_32) main_arg2
  let main_c : IVec S_ 32 := constantI S_ 32 1#32
  let main_v1 : IVec S1536x28672 32 := broadcastInDim S1536x28672 ![] bcast_S_S1536x28672 main_c
  let main_v2 : IVec S1536x28672 32 := andi main_v0 main_v1
  let main_c_0 : IVec S_ 32 := constantI S_ 32 1#32
  let main_v3 : IVec S1536x28672 32 := broadcastInDim S1536x28672 ![] bcast_S_S1536x28672 main_c_0
  let main_v4 : IVec S1536x28672 32 := Host.shrsi main_v0 main_v3
  let main_c_1 : IVec S_ 32 := constantI S_ 32 1#32
  let main_v5 : IVec S1536x28672 32 := broadcastInDim S1536x28672 ![] bcast_S_S1536x28672 main_c_1
  let main_v6 : IVec S1536x28672 32 := andi main_v4 main_v5
  let main_v7 : IVec S1536x28672 32 := addi main_v2 main_v6
  let main_c_2 : IVec S_ 32 := constantI S_ 32 2#32
  let main_v8 : IVec S1536x28672 32 := broadcastInDim S1536x28672 ![] bcast_S_S1536x28672 main_c_2
  let main_v9 : IVec S1536x28672 32 := Host.shrsi main_v0 main_v8
  let main_c_3 : IVec S_ 32 := constantI S_ 32 1#32
  let main_v10 : IVec S1536x28672 32 := broadcastInDim S1536x28672 ![] bcast_S_S1536x28672 main_c_3
  let main_v11 : IVec S1536x28672 32 := andi main_v9 main_v10
  let main_v12 : IVec S1536x28672 32 := addi main_v7 main_v11
  let main_c_4 : IVec S_ 32 := constantI S_ 32 3#32
  let main_v13 : IVec S1536x28672 32 := broadcastInDim S1536x28672 ![] bcast_S_S1536x28672 main_c_4
  let main_v14 : IVec S1536x28672 32 := Host.shrsi main_v0 main_v13
  let main_c_5 : IVec S_ 32 := constantI S_ 32 1#32
  let main_v15 : IVec S1536x28672 32 := broadcastInDim S1536x28672 ![] bcast_S_S1536x28672 main_c_5
  let main_v16 : IVec S1536x28672 32 := andi main_v14 main_v15
  fn_part1 (F := F) main_v0 main_v12 main_v16
-- ==== Kernel.lean ====
abbrev S6x1x12288 : Shape := ⟨3, ![6, 1, 12288]⟩
abbrev S3072x28672 : Shape := ⟨2, ![3072, 28672]⟩
abbrev S1536x28672 : Shape := ⟨2, ![1536, 28672]⟩
abbrev S96x28672 : Shape := ⟨2, ![96, 28672]⟩
abbrev S6x48x64x4 : Shape := ⟨4, ![6, 48, 64, 4]⟩
abbrev S48x6x4x64 : Shape := ⟨4, ![48, 6, 4, 64]⟩
abbrev S48x6x256 : Shape := ⟨3, ![48, 6, 256]⟩
abbrev S_ : Shape := ⟨0, ![]⟩
abbrev S48x16x256 : Shape := ⟨3, ![48, 16, 256]⟩
abbrev S16x28672 : Shape := ⟨2, ![16, 28672]⟩
abbrev S3072x512 : Shape := ⟨2, ![3072, 512]⟩
abbrev S1536x512 : Shape := ⟨2, ![1536, 512]⟩
abbrev S96x512 : Shape := ⟨2, ![96, 512]⟩
abbrev S16x512 : Shape := ⟨2, ![16, 512]⟩
abbrev S32x512 : Shape := ⟨2, ![32, 512]⟩
abbrev S8x512 : Shape := ⟨2, ![8, 512]⟩
abbrev S48x512 : Shape := ⟨2, ![48, 512]⟩
abbrev S1x512 : Shape := ⟨2, ![1, 512]⟩
abbrev S2x512 : Shape := ⟨2, ![2, 512]⟩
abbrev S64x512 : Shape := ⟨2, ![64, 512]⟩
abbrev S8x8x512 : Shape := ⟨3, ![8, 8, 512]⟩
abbrev S8x1x512 : Shape := ⟨3, ![8, 1, 512]⟩
abbrev S256x512 : Shape := ⟨2, ![256, 512]⟩
abbrev S1x16x256 : Shape := ⟨3, ![1, 16, 256]⟩
abbrev S16x256 : Shape := ⟨2, ![16, 256]⟩
abbrev S6x28672 : Shape := ⟨2, ![6, 28672]⟩
abbrev S6x1x28672 : Shape := ⟨3, ![6, 1, 28672]⟩

abbrev nBuf : Space → Nat
  | .hbm => 13
  | .vmem => 9
  | .smem => 0
  | _ => 0

abbrev bufTy : (tb : Table) → Fin (tcTables nBuf tb) → BufTy
  | .hbm, ⟨0, _⟩ => ⟨S6x1x12288, .bf16⟩
  | .hbm, ⟨1, _⟩ => ⟨S3072x28672, .i8⟩
  | .hbm, ⟨2, _⟩ => ⟨S1536x28672, .i8⟩
  | .hbm, ⟨3, _⟩ => ⟨S96x28672, .bf16⟩
  | .hbm, ⟨4, _⟩ => ⟨S6x48x64x4, .bf16⟩
  | .hbm, ⟨5, _⟩ => ⟨S48x6x4x64, .bf16⟩
  | .hbm, ⟨6, _⟩ => ⟨S48x6x256, .bf16⟩
  | .hbm, ⟨7, _⟩ => ⟨S_, .i32⟩
  | .hbm, ⟨8, _⟩ => ⟨S_, .bf16⟩
  | .hbm, ⟨9, _⟩ => ⟨S48x16x256, .bf16⟩
  | .hbm, ⟨10, _⟩ => ⟨S16x28672, .bf16⟩
  | .hbm, ⟨11, _⟩ => ⟨S6x28672, .bf16⟩
  | .hbm, ⟨12, _⟩ => ⟨S6x1x28672, .bf16⟩
  | .local _ .vmem, ⟨0, _⟩ => ⟨S48x16x256, .bf16⟩
  | .local _ .vmem, ⟨1, _⟩ => ⟨S3072x512, .i8⟩
  | .local _ .vmem, ⟨2, _⟩ => ⟨S3072x512, .i8⟩
  | .local _ .vmem, ⟨3, _⟩ => ⟨S1536x512, .i8⟩
  | .local _ .vmem, ⟨4, _⟩ => ⟨S1536x512, .i8⟩
  | .local _ .vmem, ⟨5, _⟩ => ⟨S96x512, .bf16⟩
  | .local _ .vmem, ⟨6, _⟩ => ⟨S96x512, .bf16⟩
  | .local _ .vmem, ⟨7, _⟩ => ⟨S16x512, .bf16⟩
  | .local _ .vmem, ⟨8, _⟩ => ⟨S16x512, .bf16⟩
  | _, _ => ⟨S6x1x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![56], ![false]⟩

def k0_mult1 : BitVec 32 :=
  let c0_i32 : BitVec 32 := 0#32
  c0_i32
def k0_mult2 : BitVec 32 :=
  let c32_i32 : BitVec 32 := 32#32
  c32_i32
def k0_mult3 : BitVec 32 :=
  let c0_i32_1 : BitVec 32 := 0#32
  c0_i32_1
def k0_mult4 : BitVec 32 :=
  let c64_i32 : BitVec 32 := 64#32
  c64_i32
def k0_mult5 : BitVec 32 :=
  let c96_i32 : BitVec 32 := 96#32
  c96_i32
def k0_mult6 : BitVec 32 :=
  let c32_i32_35 : BitVec 32 := 32#32
  c32_i32_35
def k0_mult7 : BitVec 32 :=
  let c128_i32 : BitVec 32 := 128#32
  c128_i32
def k0_mult8 : BitVec 32 :=
  let c160_i32 : BitVec 32 := 160#32
  c160_i32
def k0_mult9 : BitVec 32 :=
  let c64_i32_78 : BitVec 32 := 64#32
  c64_i32_78
def k0_mult10 : BitVec 32 :=
  let c192_i32 : BitVec 32 := 192#32
  c192_i32
def k0_mult11 : BitVec 32 :=
  let c224_i32 : BitVec 32 := 224#32
  c224_i32
def k0_mult12 : BitVec 32 :=
  let c96_i32_121 : BitVec 32 := 96#32
  c96_i32_121
def k0_mult13 : BitVec 32 :=
  let c256_i32 : BitVec 32 := 256#32
  c256_i32
def k0_mult14 : BitVec 32 :=
  let c288_i32 : BitVec 32 := 288#32
  c288_i32
def k0_mult15 : BitVec 32 :=
  let c128_i32_164 : BitVec 32 := 128#32
  c128_i32_164
def k0_mult16 : BitVec 32 :=
  let c320_i32 : BitVec 32 := 320#32
  c320_i32
def k0_mult17 : BitVec 32 :=
  let c352_i32 : BitVec 32 := 352#32
  c352_i32
def k0_mult18 : BitVec 32 :=
  let c160_i32_207 : BitVec 32 := 160#32
  c160_i32_207
def k0_mult19 : BitVec 32 :=
  let c384_i32 : BitVec 32 := 384#32
  c384_i32
def k0_mult20 : BitVec 32 :=
  let c416_i32 : BitVec 32 := 416#32
  c416_i32
def k0_mult21 : BitVec 32 :=
  let c192_i32_250 : BitVec 32 := 192#32
  c192_i32_250
def k0_mult22 : BitVec 32 :=
  let c448_i32 : BitVec 32 := 448#32
  c448_i32
def k0_mult23 : BitVec 32 :=
  let c480_i32 : BitVec 32 := 480#32
  c480_i32
def k0_mult24 : BitVec 32 :=
  let c224_i32_293 : BitVec 32 := 224#32
  c224_i32_293
def k0_mult25 : BitVec 32 :=
  let c512_i32 : BitVec 32 := 512#32
  c512_i32
def k0_mult26 : BitVec 32 :=
  let c544_i32 : BitVec 32 := 544#32
  c544_i32
def k0_mult27 : BitVec 32 :=
  let c256_i32_336 : BitVec 32 := 256#32
  c256_i32_336
def k0_mult28 : BitVec 32 :=
  let c576_i32 : BitVec 32 := 576#32
  c576_i32
def k0_mult29 : BitVec 32 :=
  let c608_i32 : BitVec 32 := 608#32
  c608_i32
def k0_mult30 : BitVec 32 :=
  let c288_i32_379 : BitVec 32 := 288#32
  c288_i32_379
def k0_mult31 : BitVec 32 :=
  let c640_i32 : BitVec 32 := 640#32
  c640_i32
def k0_mult32 : BitVec 32 :=
  let c672_i32 : BitVec 32 := 672#32
  c672_i32
def k0_mult33 : BitVec 32 :=
  let c320_i32_422 : BitVec 32 := 320#32
  c320_i32_422
def k0_mult34 : BitVec 32 :=
  let c704_i32 : BitVec 32 := 704#32
  c704_i32
def k0_mult35 : BitVec 32 :=
  let c736_i32 : BitVec 32 := 736#32
  c736_i32
def k0_mult36 : BitVec 32 :=
  let c352_i32_465 : BitVec 32 := 352#32
  c352_i32_465
def k0_mult37 : BitVec 32 :=
  let c768_i32 : BitVec 32 := 768#32
  c768_i32
def k0_mult38 : BitVec 32 :=
  let c800_i32 : BitVec 32 := 800#32
  c800_i32
def k0_mult39 : BitVec 32 :=
  let c384_i32_508 : BitVec 32 := 384#32
  c384_i32_508
def k0_mult40 : BitVec 32 :=
  let c832_i32 : BitVec 32 := 832#32
  c832_i32
def k0_mult41 : BitVec 32 :=
  let c864_i32 : BitVec 32 := 864#32
  c864_i32
def k0_mult42 : BitVec 32 :=
  let c416_i32_551 : BitVec 32 := 416#32
  c416_i32_551
def k0_mult43 : BitVec 32 :=
  let c896_i32 : BitVec 32 := 896#32
  c896_i32
def k0_mult44 : BitVec 32 :=
  let c928_i32 : BitVec 32 := 928#32
  c928_i32
def k0_mult45 : BitVec 32 :=
  let c448_i32_594 : BitVec 32 := 448#32
  c448_i32_594
def k0_mult46 : BitVec 32 :=
  let c960_i32 : BitVec 32 := 960#32
  c960_i32
def k0_mult47 : BitVec 32 :=
  let c992_i32 : BitVec 32 := 992#32
  c992_i32
def k0_mult48 : BitVec 32 :=
  let c480_i32_637 : BitVec 32 := 480#32
  c480_i32_637
def k0_mult49 : BitVec 32 :=
  let c1024_i32 : BitVec 32 := 1024#32
  c1024_i32
def k0_mult50 : BitVec 32 :=
  let c1056_i32 : BitVec 32 := 1056#32
  c1056_i32
def k0_mult51 : BitVec 32 :=
  let c512_i32_680 : BitVec 32 := 512#32
  c512_i32_680
def k0_mult52 : BitVec 32 :=
  let c1088_i32 : BitVec 32 := 1088#32
  c1088_i32
def k0_mult53 : BitVec 32 :=
  let c1120_i32 : BitVec 32 := 1120#32
  c1120_i32
def k0_mult54 : BitVec 32 :=
  let c544_i32_723 : BitVec 32 := 544#32
  c544_i32_723
def k0_mult55 : BitVec 32 :=
  let c1152_i32 : BitVec 32 := 1152#32
  c1152_i32
def k0_mult56 : BitVec 32 :=
  let c1184_i32 : BitVec 32 := 1184#32
  c1184_i32
def k0_mult57 : BitVec 32 :=
  let c576_i32_766 : BitVec 32 := 576#32
  c576_i32_766
def k0_mult58 : BitVec 32 :=
  let c1216_i32 : BitVec 32 := 1216#32
  c1216_i32
def k0_mult59 : BitVec 32 :=
  let c1248_i32 : BitVec 32 := 1248#32
  c1248_i32
def k0_mult60 : BitVec 32 :=
  let c608_i32_809 : BitVec 32 := 608#32
  c608_i32_809
def k0_mult61 : BitVec 32 :=
  let c1280_i32 : BitVec 32 := 1280#32
  c1280_i32
def k0_mult62 : BitVec 32 :=
  let c1312_i32 : BitVec 32 := 1312#32
  c1312_i32
def k0_mult63 : BitVec 32 :=
  let c640_i32_852 : BitVec 32 := 640#32
  c640_i32_852
def k0_mult64 : BitVec 32 :=
  let c1344_i32 : BitVec 32 := 1344#32
  c1344_i32
def k0_mult65 : BitVec 32 :=
  let c1376_i32 : BitVec 32 := 1376#32
  c1376_i32
def k0_mult66 : BitVec 32 :=
  let c672_i32_895 : BitVec 32 := 672#32
  c672_i32_895
def k0_mult67 : BitVec 32 :=
  let c1408_i32 : BitVec 32 := 1408#32
  c1408_i32
def k0_mult68 : BitVec 32 :=
  let c1440_i32 : BitVec 32 := 1440#32
  c1440_i32
def k0_mult69 : BitVec 32 :=
  let c704_i32_938 : BitVec 32 := 704#32
  c704_i32_938
def k0_mult70 : BitVec 32 :=
  let c1472_i32 : BitVec 32 := 1472#32
  c1472_i32
def k0_mult71 : BitVec 32 :=
  let c1504_i32 : BitVec 32 := 1504#32
  c1504_i32
def k0_mult72 : BitVec 32 :=
  let c736_i32_981 : BitVec 32 := 736#32
  c736_i32_981
def k0_mult73 : BitVec 32 :=
  let c1536_i32 : BitVec 32 := 1536#32
  c1536_i32
def k0_mult74 : BitVec 32 :=
  let c1568_i32 : BitVec 32 := 1568#32
  c1568_i32
def k0_mult75 : BitVec 32 :=
  let c768_i32_1024 : BitVec 32 := 768#32
  c768_i32_1024
def k0_mult76 : BitVec 32 :=
  let c1600_i32 : BitVec 32 := 1600#32
  c1600_i32
def k0_mult77 : BitVec 32 :=
  let c1632_i32 : BitVec 32 := 1632#32
  c1632_i32
def k0_mult78 : BitVec 32 :=
  let c800_i32_1067 : BitVec 32 := 800#32
  c800_i32_1067
def k0_mult79 : BitVec 32 :=
  let c1664_i32 : BitVec 32 := 1664#32
  c1664_i32
def k0_mult80 : BitVec 32 :=
  let c1696_i32 : BitVec 32 := 1696#32
  c1696_i32
def k0_mult81 : BitVec 32 :=
  let c832_i32_1110 : BitVec 32 := 832#32
  c832_i32_1110
def k0_mult82 : BitVec 32 :=
  let c1728_i32 : BitVec 32 := 1728#32
  c1728_i32
def k0_mult83 : BitVec 32 :=
  let c1760_i32 : BitVec 32 := 1760#32
  c1760_i32
def k0_mult84 : BitVec 32 :=
  let c864_i32_1153 : BitVec 32 := 864#32
  c864_i32_1153
def k0_mult85 : BitVec 32 :=
  let c1792_i32 : BitVec 32 := 1792#32
  c1792_i32
def k0_mult86 : BitVec 32 :=
  let c1824_i32 : BitVec 32 := 1824#32
  c1824_i32
def k0_mult87 : BitVec 32 :=
  let c896_i32_1196 : BitVec 32 := 896#32
  c896_i32_1196
def k0_mult88 : BitVec 32 :=
  let c1856_i32 : BitVec 32 := 1856#32
  c1856_i32
def k0_mult89 : BitVec 32 :=
  let c1888_i32 : BitVec 32 := 1888#32
  c1888_i32
def k0_mult90 : BitVec 32 :=
  let c928_i32_1239 : BitVec 32 := 928#32
  c928_i32_1239
def k0_mult91 : BitVec 32 :=
  let c1920_i32 : BitVec 32 := 1920#32
  c1920_i32
def k0_mult92 : BitVec 32 :=
  let c1952_i32 : BitVec 32 := 1952#32
  c1952_i32
def k0_mult93 : BitVec 32 :=
  let c960_i32_1282 : BitVec 32 := 960#32
  c960_i32_1282
def k0_mult94 : BitVec 32 :=
  let c1984_i32 : BitVec 32 := 1984#32
  c1984_i32
def k0_mult95 : BitVec 32 :=
  let c2016_i32 : BitVec 32 := 2016#32
  c2016_i32
def k0_mult96 : BitVec 32 :=
  let c992_i32_1325 : BitVec 32 := 992#32
  c992_i32_1325
def k0_mult97 : BitVec 32 :=
  let c2048_i32 : BitVec 32 := 2048#32
  c2048_i32
def k0_mult98 : BitVec 32 :=
  let c2080_i32 : BitVec 32 := 2080#32
  c2080_i32
def k0_mult99 : BitVec 32 :=
  let c1024_i32_1368 : BitVec 32 := 1024#32
  c1024_i32_1368
def k0_mult100 : BitVec 32 :=
  let c2112_i32 : BitVec 32 := 2112#32
  c2112_i32
def k0_mult101 : BitVec 32 :=
  let c2144_i32 : BitVec 32 := 2144#32
  c2144_i32
def k0_mult102 : BitVec 32 :=
  let c1056_i32_1411 : BitVec 32 := 1056#32
  c1056_i32_1411
def k0_mult103 : BitVec 32 :=
  let c2176_i32 : BitVec 32 := 2176#32
  c2176_i32
def k0_mult104 : BitVec 32 :=
  let c2208_i32 : BitVec 32 := 2208#32
  c2208_i32
def k0_mult105 : BitVec 32 :=
  let c1088_i32_1454 : BitVec 32 := 1088#32
  c1088_i32_1454
def k0_mult106 : BitVec 32 :=
  let c2240_i32 : BitVec 32 := 2240#32
  c2240_i32
def k0_mult107 : BitVec 32 :=
  let c2272_i32 : BitVec 32 := 2272#32
  c2272_i32
def k0_mult108 : BitVec 32 :=
  let c1120_i32_1497 : BitVec 32 := 1120#32
  c1120_i32_1497
def k0_mult109 : BitVec 32 :=
  let c2304_i32 : BitVec 32 := 2304#32
  c2304_i32
def k0_mult110 : BitVec 32 :=
  let c2336_i32 : BitVec 32 := 2336#32
  c2336_i32
def k0_mult111 : BitVec 32 :=
  let c1152_i32_1540 : BitVec 32 := 1152#32
  c1152_i32_1540
def k0_mult112 : BitVec 32 :=
  let c2368_i32 : BitVec 32 := 2368#32
  c2368_i32
def k0_mult113 : BitVec 32 :=
  let c2400_i32 : BitVec 32 := 2400#32
  c2400_i32
def k0_mult114 : BitVec 32 :=
  let c1184_i32_1583 : BitVec 32 := 1184#32
  c1184_i32_1583
def k0_mult115 : BitVec 32 :=
  let c2432_i32 : BitVec 32 := 2432#32
  c2432_i32
def k0_mult116 : BitVec 32 :=
  let c2464_i32 : BitVec 32 := 2464#32
  c2464_i32
def k0_mult117 : BitVec 32 :=
  let c1216_i32_1626 : BitVec 32 := 1216#32
  c1216_i32_1626
def k0_mult118 : BitVec 32 :=
  let c2496_i32 : BitVec 32 := 2496#32
  c2496_i32
def k0_mult119 : BitVec 32 :=
  let c2528_i32 : BitVec 32 := 2528#32
  c2528_i32
def k0_mult120 : BitVec 32 :=
  let c1248_i32_1669 : BitVec 32 := 1248#32
  c1248_i32_1669
def k0_mult121 : BitVec 32 :=
  let c2560_i32 : BitVec 32 := 2560#32
  c2560_i32
def k0_mult122 : BitVec 32 :=
  let c2592_i32 : BitVec 32 := 2592#32
  c2592_i32
def k0_mult123 : BitVec 32 :=
  let c1280_i32_1712 : BitVec 32 := 1280#32
  c1280_i32_1712
def k0_mult124 : BitVec 32 :=
  let c2624_i32 : BitVec 32 := 2624#32
  c2624_i32
def k0_mult125 : BitVec 32 :=
  let c2656_i32 : BitVec 32 := 2656#32
  c2656_i32
def k0_mult126 : BitVec 32 :=
  let c1312_i32_1755 : BitVec 32 := 1312#32
  c1312_i32_1755
def k0_mult127 : BitVec 32 :=
  let c2688_i32 : BitVec 32 := 2688#32
  c2688_i32
def k0_mult128 : BitVec 32 :=
  let c2720_i32 : BitVec 32 := 2720#32
  c2720_i32
def k0_mult129 : BitVec 32 :=
  let c1344_i32_1798 : BitVec 32 := 1344#32
  c1344_i32_1798
def k0_mult130 : BitVec 32 :=
  let c2752_i32 : BitVec 32 := 2752#32
  c2752_i32
def k0_mult131 : BitVec 32 :=
  let c2784_i32 : BitVec 32 := 2784#32
  c2784_i32
def k0_mult132 : BitVec 32 :=
  let c1376_i32_1841 : BitVec 32 := 1376#32
  c1376_i32_1841
def k0_mult133 : BitVec 32 :=
  let c2816_i32 : BitVec 32 := 2816#32
  c2816_i32
def k0_mult134 : BitVec 32 :=
  let c2848_i32 : BitVec 32 := 2848#32
  c2848_i32
def k0_mult135 : BitVec 32 :=
  let c1408_i32_1884 : BitVec 32 := 1408#32
  c1408_i32_1884
def k0_mult136 : BitVec 32 :=
  let c2880_i32 : BitVec 32 := 2880#32
  c2880_i32
def k0_mult137 : BitVec 32 :=
  let c2912_i32 : BitVec 32 := 2912#32
  c2912_i32
def k0_mult138 : BitVec 32 :=
  let c1440_i32_1927 : BitVec 32 := 1440#32
  c1440_i32_1927
def k0_mult139 : BitVec 32 :=
  let c2944_i32 : BitVec 32 := 2944#32
  c2944_i32
def k0_mult140 : BitVec 32 :=
  let c2976_i32 : BitVec 32 := 2976#32
  c2976_i32
def k0_mult141 : BitVec 32 :=
  let c1472_i32_1970 : BitVec 32 := 1472#32
  c1472_i32_1970
def k0_mult142 : BitVec 32 :=
  let c3008_i32 : BitVec 32 := 3008#32
  c3008_i32
def k0_mult143 : BitVec 32 :=
  let c3040_i32 : BitVec 32 := 3040#32
  c3040_i32
def k0_mult144 : BitVec 32 :=
  let c1504_i32_2013 : BitVec 32 := 1504#32
  c1504_i32_2013
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S6x1x12288 : Shape := ⟨3, ![6, 1, 12288]⟩
abbrev S3072x28672 : Shape := ⟨2, ![3072, 28672]⟩
abbrev S1536x28672 : Shape := ⟨2, ![1536, 28672]⟩
abbrev S96x28672 : Shape := ⟨2, ![96, 28672]⟩
abbrev S1536x2x28672 : Shape := ⟨3, ![1536, 2, 28672]⟩
abbrev S_ : Shape := ⟨0, ![]⟩
abbrev S96x16x28672 : Shape := ⟨3, ![96, 16, 28672]⟩
abbrev S1536x1x28672 : Shape := ⟨3, ![1536, 1, 28672]⟩
abbrev S6x1x1536x2x4 : Shape := ⟨5, ![6, 1, 1536, 2, 4]⟩
abbrev S6x1x1536x1x1 : Shape := ⟨5, ![6, 1, 1536, 1, 1]⟩
abbrev S6x1x1536 : Shape := ⟨3, ![6, 1, 1536]⟩
abbrev S6x1x28672 : Shape := ⟨3, ![6, 1, 28672]⟩

abbrev nBuf : Space → Nat
  | .hbm => 188
  | .vmem => 0
  | .smem => 0
  | _ => 0

abbrev hbmTy0_0 (i : Nat) : BufTy := match i % 128 with
  | 0 => ⟨S6x1x12288, .bf16⟩
  | 1 => ⟨S3072x28672, .i8⟩
  | 2 => ⟨S1536x28672, .i8⟩
  | 3 => ⟨S96x28672, .bf16⟩
  | 4 => ⟨S3072x28672, .i32⟩
  | 5 => ⟨S1536x2x28672, .i32⟩
  | 6 => ⟨S1536x28672, .i32⟩
  | 7 => ⟨S_, .i32⟩
  | 8 => ⟨S1536x2x28672, .i32⟩
  | 9 => ⟨S1536x2x28672, .i32⟩
  | 10 => ⟨S_, .i32⟩
  | 11 => ⟨S1536x2x28672, .i32⟩
  | 12 => ⟨S1536x2x28672, .i32⟩
  | 13 => ⟨S_, .i32⟩
  | 14 => ⟨S1536x2x28672, .i32⟩
  | 15 => ⟨S1536x2x28672, .i32⟩
  | 16 => ⟨S96x16x28672, .bf16⟩
  | 17 => ⟨S1536x28672, .bf16⟩
  | 18 => ⟨S1536x1x28672, .bf16⟩
  | 19 => ⟨S1536x2x28672, .bf16⟩
  | 20 => ⟨S_, .bf16⟩
  | 21 => ⟨S1536x2x28672, .bf16⟩
  | 22 => ⟨S1536x2x28672, .bf16⟩
  | 23 => ⟨S1536x2x28672, .bf16⟩
  | 24 => ⟨S1536x2x28672, .bf16⟩
  | 25 => ⟨S1536x2x28672, .bf16⟩
  | 26 => ⟨S_, .bf16⟩
  | 27 => ⟨S1536x2x28672, .bf16⟩
  | 28 => ⟨S1536x2x28672, .bf16⟩
  | 29 => ⟨S1536x2x28672, .bf16⟩
  | 30 => ⟨S1536x2x28672, .bf16⟩
  | 31 => ⟨S6x1x1536x2x4, .bf16⟩
  | 32 => ⟨S1536x1x28672, .bf16⟩
  | 33 => ⟨S1536x28672, .bf16⟩
  | 34 => ⟨S1536x1x28672, .bf16⟩
  | 35 => ⟨S1536x28672, .bf16⟩
  | 36 => ⟨S_, .i1⟩
  | 37 => ⟨S1536x28672, .i1⟩
  | 38 => ⟨S_, .i32⟩
  | 39 => ⟨S1536x28672, .i32⟩
  | 40 => ⟨S1536x28672, .i32⟩
  | 41 => ⟨S_, .i32⟩
  | 42 => ⟨S1536x28672, .i32⟩
  | 43 => ⟨S1536x28672, .i32⟩
  | 44 => ⟨S_, .i32⟩
  | 45 => ⟨S1536x28672, .i32⟩
  | 46 => ⟨S1536x28672, .i1⟩
  | 47 => ⟨S1536x28672, .bf16⟩
  | 48 => ⟨S_, .bf16⟩
  | 49 => ⟨S1536x28672, .bf16⟩
  | 50 => ⟨S1536x28672, .bf16⟩
  | 51 => ⟨S1536x28672, .i1⟩
  | 52 => ⟨S6x1x1536x1x1, .bf16⟩
  | 53 => ⟨S6x1x1536, .bf16⟩
  | 54 => ⟨S6x1x28672, .f32⟩
  | 55 => ⟨S_, .i32⟩
  | 56 => ⟨S1536x28672, .i32⟩
  | 57 => ⟨S1536x28672, .i32⟩
  | 58 => ⟨S_, .i32⟩
  | 59 => ⟨S1536x28672, .i32⟩
  | 60 => ⟨S1536x28672, .i32⟩
  | 61 => ⟨S_, .i32⟩
  | 62 => ⟨S1536x28672, .i32⟩
  | 63 => ⟨S1536x28672, .i1⟩
  | 64 => ⟨S1536x28672, .bf16⟩
  | 65 => ⟨S_, .bf16⟩
  | 66 => ⟨S1536x28672, .bf16⟩
  | 67 => ⟨S1536x28672, .bf16⟩
  | 68 => ⟨S1536x28672, .i1⟩
  | 69 => ⟨S6x1x1536x1x1, .bf16⟩
  | 70 => ⟨S6x1x1536, .bf16⟩
  | 71 => ⟨S6x1x28672, .f32⟩
  | 72 => ⟨S6x1x28672, .f32⟩
  | 73 => ⟨S_, .i32⟩
  | 74 => ⟨S1536x28672, .i32⟩
  | 75 => ⟨S1536x28672, .i32⟩
  | 76 => ⟨S_, .i32⟩
  | 77 => ⟨S1536x28672, .i32⟩
  | 78 => ⟨S1536x28672, .i32⟩
  | 79 => ⟨S_, .i32⟩
  | 80 => ⟨S1536x28672, .i32⟩
  | 81 => ⟨S1536x28672, .i1⟩
  | 82 => ⟨S1536x28672, .bf16⟩
  | 83 => ⟨S_, .bf16⟩
  | 84 => ⟨S1536x28672, .bf16⟩
  | 85 => ⟨S1536x28672, .bf16⟩
  | 86 => ⟨S1536x28672, .i1⟩
  | 87 => ⟨S6x1x1536x1x1, .bf16⟩
  | 88 => ⟨S6x1x1536, .bf16⟩
  | 89 => ⟨S6x1x28672, .f32⟩
  | 90 => ⟨S6x1x28672, .f32⟩
  | 91 => ⟨S_, .i32⟩
  | 92 => ⟨S1536x28672, .i32⟩
  | 93 => ⟨S1536x28672, .i32⟩
  | 94 => ⟨S_, .i32⟩
  | 95 => ⟨S1536x28672, .i32⟩
  | 96 => ⟨S1536x28672, .i32⟩
  | 97 => ⟨S_, .i32⟩
  | 98 => ⟨S1536x28672, .i32⟩
  | 99 => ⟨S1536x28672, .i1⟩
  | 100 => ⟨S1536x28672, .bf16⟩
  | 101 => ⟨S_, .bf16⟩
  | 102 => ⟨S1536x28672, .bf16⟩
  | 103 => ⟨S1536x28672, .bf16⟩
  | 104 => ⟨S1536x28672, .i1⟩
  | 105 => ⟨S6x1x1536x1x1, .bf16⟩
  | 106 => ⟨S6x1x1536, .bf16⟩
  | 107 => ⟨S6x1x28672, .f32⟩
  | 108 => ⟨S6x1x28672, .f32⟩
  | 109 => ⟨S1536x1x28672, .bf16⟩
  | 110 => ⟨S1536x28672, .bf16⟩
  | 111 => ⟨S1536x1x28672, .bf16⟩
  | 112 => ⟨S1536x28672, .bf16⟩
  | 113 => ⟨S_, .i1⟩
  | 114 => ⟨S1536x28672, .i1⟩
  | 115 => ⟨S_, .i32⟩
  | 116 => ⟨S1536x28672, .i32⟩
  | 117 => ⟨S1536x28672, .i32⟩
  | 118 => ⟨S_, .i32⟩
  | 119 => ⟨S1536x28672, .i32⟩
  | 120 => ⟨S1536x28672, .i32⟩
  | 121 => ⟨S_, .i32⟩
  | 122 => ⟨S1536x28672, .i32⟩
  | 123 => ⟨S1536x28672, .i1⟩
  | 124 => ⟨S1536x28672, .bf16⟩
  | 125 => ⟨S_, .bf16⟩
  | 126 => ⟨S1536x28672, .bf16⟩
  | 127 => ⟨S1536x28672, .bf16⟩
  | _ => ⟨S6x1x12288, .bf16⟩

abbrev hbmTy0_1 (i : Nat) : BufTy := match i % 128 with
  | 0 => ⟨S1536x28672, .i1⟩
  | 1 => ⟨S6x1x1536x1x1, .bf16⟩
  | 2 => ⟨S6x1x1536, .bf16⟩
  | 3 => ⟨S6x1x28672, .f32⟩
  | 4 => ⟨S6x1x28672, .f32⟩
  | 5 => ⟨S_, .i32⟩
  | 6 => ⟨S1536x28672, .i32⟩
  | 7 => ⟨S1536x28672, .i32⟩
  | 8 => ⟨S_, .i32⟩
  | 9 => ⟨S1536x28672, .i32⟩
  | 10 => ⟨S1536x28672, .i32⟩
  | 11 => ⟨S_, .i32⟩
  | 12 => ⟨S1536x28672, .i32⟩
  | 13 => ⟨S1536x28672, .i1⟩
  | 14 => ⟨S1536x28672, .bf16⟩
  | 15 => ⟨S_, .bf16⟩
  | 16 => ⟨S1536x28672, .bf16⟩
  | 17 => ⟨S1536x28672, .bf16⟩
  | 18 => ⟨S1536x28672, .i1⟩
  | 19 => ⟨S6x1x1536x1x1, .bf16⟩
  | 20 => ⟨S6x1x1536, .bf16⟩
  | 21 => ⟨S6x1x28672, .f32⟩
  | 22 => ⟨S6x1x28672, .f32⟩
  | 23 => ⟨S_, .i32⟩
  | 24 => ⟨S1536x28672, .i32⟩
  | 25 => ⟨S1536x28672, .i32⟩
  | 26 => ⟨S_, .i32⟩
  | 27 => ⟨S1536x28672, .i32⟩
  | 28 => ⟨S1536x28672, .i32⟩
  | 29 => ⟨S_, .i32⟩
  | 30 => ⟨S1536x28672, .i32⟩
  | 31 => ⟨S1536x28672, .i1⟩
  | 32 => ⟨S1536x28672, .bf16⟩
  | 33 => ⟨S_, .bf16⟩
  | 34 => ⟨S1536x28672, .bf16⟩
  | 35 => ⟨S1536x28672, .bf16⟩
  | 36 => ⟨S1536x28672, .i1⟩
  | 37 => ⟨S6x1x1536x1x1, .bf16⟩
  | 38 => ⟨S6x1x1536, .bf16⟩
  | 39 => ⟨S6x1x28672, .f32⟩
  | 40 => ⟨S6x1x28672, .f32⟩
  | 41 => ⟨S_, .i32⟩
  | 42 => ⟨S1536x28672, .i32⟩
  | 43 => ⟨S1536x28672, .i32⟩
  | 44 => ⟨S_, .i32⟩
  | 45 => ⟨S1536x28672, .i32⟩
  | 46 => ⟨S1536x28672, .i32⟩
  | 47 => ⟨S_, .i32⟩
  | 48 => ⟨S1536x28672, .i32⟩
  | 49 => ⟨S1536x28672, .i1⟩
  | 50 => ⟨S1536x28672, .bf16⟩
  | 51 => ⟨S_, .bf16⟩
  | 52 => ⟨S1536x28672, .bf16⟩
  | 53 => ⟨S1536x28672, .bf16⟩
  | 54 => ⟨S1536x28672, .i1⟩
  | 55 => ⟨S6x1x1536x1x1, .bf16⟩
  | 56 => ⟨S6x1x1536, .bf16⟩
  | 57 => ⟨S6x1x28672, .f32⟩
  | 58 => ⟨S6x1x28672, .f32⟩
  | 59 => ⟨S6x1x28672, .bf16⟩
  | _ => ⟨S6x1x12288, .bf16⟩

abbrev hbmTy (i : Nat) : BufTy := match i / 128 with
  | 0 => hbmTy0_0 i
  | 1 => hbmTy0_1 i
  | _ => ⟨S6x1x12288, .bf16⟩

abbrev bufTy : (tb : Table) → Fin (tcTables nBuf tb) → BufTy
  | .hbm, ⟨i, _⟩ => hbmTy i
  | _, _ => ⟨S6x1x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_call3_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_call5_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_16 : Ref sig .tc := ⟨.hbm, 91, rfl⟩
abbrev main_v66 : Ref sig .tc := ⟨.hbm, 92, rfl⟩
abbrev main_v67 : Ref sig .tc := ⟨.hbm, 93, rfl⟩
abbrev main_c_17 : Ref sig .tc := ⟨.hbm, 94, rfl⟩
abbrev main_v68 : Ref sig .tc := ⟨.hbm, 95, rfl⟩
abbrev main_v69 : Ref sig .tc := ⟨.hbm, 96, rfl⟩
abbrev main_c_18 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_call7_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_c_21 : Ref sig .tc := ⟨.hbm, 115, rfl⟩
abbrev main_v84 : Ref sig .tc := ⟨.hbm, 116, rfl⟩
abbrev main_v85 : Ref sig .tc := ⟨.hbm, 117, rfl⟩
abbrev main_c_22 : Ref sig .tc := ⟨.hbm, 118, rfl⟩
abbrev main_v86 : Ref sig .tc := ⟨.hbm, 119, rfl⟩
abbrev main_v87 : Ref sig .tc := ⟨.hbm, 120, rfl⟩
abbrev main_c_23 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_call9_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_25 : Ref sig .tc := ⟨.hbm, 133, rfl⟩
abbrev main_v97 : Ref sig .tc := ⟨.hbm, 134, rfl⟩
abbrev main_v98 : Ref sig .tc := ⟨.hbm, 135, rfl⟩
abbrev main_c_26 : Ref sig .tc := ⟨.hbm, 136, rfl⟩
abbrev main_v99 : Ref sig .tc := ⟨.hbm, 137, rfl⟩
abbrev main_v100 : Ref sig .tc := ⟨.hbm, 138, rfl⟩
abbrev main_c_27 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_28 : Ref sig .tc := ⟨.hbm, 143, rfl⟩
abbrev main_call11_v0 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_29 : Ref sig .tc := ⟨.hbm, 151, rfl⟩
abbrev main_v110 : Ref sig .tc := ⟨.hbm, 152, rfl⟩
abbrev main_v111 : Ref sig .tc := ⟨.hbm, 153, rfl⟩
abbrev main_c_30 : Ref sig .tc := ⟨.hbm, 154, rfl⟩
abbrev main_v112 : Ref sig .tc := ⟨.hbm, 155, rfl⟩
abbrev main_v113 : Ref sig .tc := ⟨.hbm, 156, rfl⟩
abbrev main_c_31 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_32 : Ref sig .tc := ⟨.hbm, 161, rfl⟩
abbrev main_call13_v0 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_33 : Ref sig .tc := ⟨.hbm, 169, rfl⟩
abbrev main_v123 : Ref sig .tc := ⟨.hbm, 170, rfl⟩
abbrev main_v124 : Ref sig .tc := ⟨.hbm, 171, rfl⟩
abbrev main_c_34 : Ref sig .tc := ⟨.hbm, 172, rfl⟩
abbrev main_v125 : Ref sig .tc := ⟨.hbm, 173, rfl⟩
abbrev main_v126 : Ref sig .tc := ⟨.hbm, 174, rfl⟩
abbrev main_c_35 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_36 : Ref sig .tc := ⟨.hbm, 179, rfl⟩
abbrev main_call15_v0 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩

abbrev nD : Nat := 1
abbrev τ : Topo := Topo.v7x

variable {F : FTy → Type} [FloatOps F]
-- ==== Proof.Tile.lean ====
/- One tile of the kernel's body as a function of the blocks it loads, and the body's result as 48 such tiles. -/
module

public import proofs.«01_k».proof.Proof.Gen.KernelIdeal.Frame

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- Four rows of bytes to a row of words. -/
def words (v : Vec F S32x512 .i8) : IVec S8x512 32 := bitcast S8x512 32 v bitcasts_S32x512_w8_S8x512_w32

/-- The words shifted down by four bits. -/
def down4 (w : IVec S8x512 32) : IVec S8x512 32 := shrui w (broadcast S8x512 4#32)

/-- The low nibble of each byte of two groups of words, eight nibbles to a word, each with its top bit flipped. -/
def pack (w0 w1 : IVec S8x512 32) : IVec S8x512 32 :=
  xori
    (multiReductionI .add [1] S8x512
      (shli
        (andi
          (shapeCast S8x8x512
            (extsi 32
              (trunci 4
                (concatenate S64x512 0
                  [⟨S32x512, (bitcast S32x512 8 w0 bitcasts_S8x512_w32_S32x512_w8 : IVec S32x512 8)⟩,
                   ⟨S32x512, (bitcast S32x512 8 w1 bitcasts_S8x512_w32_S32x512_w8 : IVec S32x512 8)⟩]
                  concatenates_S32x512_S32x512_S64x512_d0 : IVec S64x512 8) natLt_4_8) natLt_4_32 : IVec S64x512 32)
            shapeCasts_S64x512_S8x8x512)
          (broadcast S8x8x512 15#32))
        (muli (broadcast S8x8x512 4#32) (iota .tc S8x8x512 32 [1] iota_S8x8x512_d1_w32)))
      0#32 reduces_S8x8x512_S8x512 rfl)
    (broadcast S8x512 2290649224#32)

/-- Each nibble's lowest bit, copied to all four bits of the nibble. -/
def fill (w : IVec S8x512 32) : IVec S8x512 32 :=
  subi (shli (andi w (broadcast S8x512 286331153#32)) (broadcast S8x512 4#32)) (andi w (broadcast S8x512 286331153#32))

/-- The eight nibbles of each word, sign extended, one to a row. -/
def spread (w : IVec S8x512 32) : IVec S64x512 32 :=
  shapeCast S64x512
    (shrsi
      (shli
        (broadcastTo S8x8x512
          (shapeCast S8x1x512 (shapeCast S8x1x512 w shapeCasts_S8x512_S8x1x512) shapeCasts_S8x1x512_S8x1x512)
          broadcasts_S8x1x512_S8x8x512)
        (subi (broadcast S8x8x512 28#32)
          (muli (broadcast S8x8x512 4#32) (iota .tc S8x8x512 32 [1] iota_S8x8x512_d1_w32))))
      (broadcast S8x8x512 28#32))
    shapeCasts_S8x8x512_S64x512

/-- One row of scales, eight times. -/
def eight (r : FVec F S1x512 .bf16) : FVec F S8x512 .bf16 :=
  concatenate S8x512 0 [⟨S1x512, r⟩, ⟨S1x512, r⟩, ⟨S1x512, r⟩, ⟨S1x512, r⟩, ⟨S1x512, r⟩, ⟨S1x512, r⟩, ⟨S1x512, r⟩, ⟨S1x512, r⟩]
    concatenates_S1x512_S1x512_S1x512_S1x512_S1x512_S1x512_S1x512_S1x512_S8x512_d0

/-- One row of scales, sixteen times. -/
def sixteen (r : FVec F S1x512 .bf16) : FVec F S16x512 .bf16 :=
  interleaveRows S16x512 (eight r) (eight r) bitcasts_S16x512_w16_S8x512_w32

/-- The two rows of scales of a tile over its 64 quads: the first over the first 32, the second over the others. -/
def scales (s : Vec F S2x512 .bf16) : FVec F S64x512 .bf16 :=
  concatenate S64x512 0
    [⟨S16x512, sixteen (rowsOfParity 0 S1x512 s bitcasts_S2x512_w16_S1x512_w32)⟩,
     ⟨S16x512, sixteen (rowsOfParity 0 S1x512 s bitcasts_S2x512_w16_S1x512_w32)⟩,
     ⟨S16x512, sixteen (rowsOfParity 1 S1x512 s bitcasts_S2x512_w16_S1x512_w32)⟩,
     ⟨S16x512, sixteen (rowsOfParity 1 S1x512 s bitcasts_S2x512_w16_S1x512_w32)⟩]
    concatenates_S16x512_S16x512_S16x512_S16x512_S64x512_d0

/-- The words of position 0 of every quad, from the words of its first code and its mask. -/
def pos0 (c m : IVec S8x512 32) : IVec S8x512 32 := andi c (fill m)

/-- The words of position 3 of every quad, from the words of its second code and its mask. -/
def pos3 (d m : IVec S8x512 32) : IVec S8x512 32 := andi d (fill (shrui m (broadcast S8x512 3#32)))

/-- The bits in which the words of positions 1 and 2 trade places. -/
def trade (c d m : IVec S8x512 32) : IVec S8x512 32 :=
  andi (xori (xori c (pos0 c m)) (xori d (pos3 d m))) (fill (xori m (shrui m (broadcast S8x512 1#32))))

/-- The words of position 1 of every quad. -/
def pos1 (c d m : IVec S8x512 32) : IVec S8x512 32 := xori (xori d (pos3 d m)) (trade c d m)

/-- The words of position 2 of every quad. -/
def pos2 (c d m : IVec S8x512 32) : IVec S8x512 32 := xori (xori c (pos0 c m)) (trade c d m)

/-- The weights of one position: its signed nibbles times the scales. -/
def weight (w : IVec S8x512 32) (s : Vec F S2x512 .bf16) : FVec F S64x512 .bf16 :=
  mulf (sitofp .bf16 (spread w)) (scales s)

/-- A tile's dense weights from the words of its codes and mask: position by position, 64 quads each. -/
def denseOf (c d m : IVec S8x512 32) (s : Vec F S2x512 .bf16) : FVec F S256x512 .bf16 :=
  concatenate S256x512 0
    [⟨S64x512, weight (pos0 c m) s⟩, ⟨S64x512, weight (pos1 c d m) s⟩, ⟨S64x512, weight (pos2 c d m) s⟩,
     ⟨S64x512, weight (pos3 d m) s⟩]
    concatenates_S64x512_S64x512_S64x512_S64x512_S256x512_d0

/-- A tile's dense weights from what it loads: two blocks of code bytes, the block of mask bytes, two rows of scales. -/
def dense (a b k : Vec F S32x512 .i8) (s : Vec F S2x512 .bf16) : FVec F S256x512 .bf16 :=
  denseOf (pack (words (F := F) a) (words (F := F) b)) (pack (down4 (words (F := F) a)) (down4 (words (F := F) b)))
    (words (F := F) k) s

/-- One tile: the accumulator plus the tile's inputs times its dense weights. -/
def step (a b k : Vec F S32x512 .i8) (s : Vec F S2x512 .bf16) (x : Vec F S1x16x256 .bf16) (acc : FVec F S16x512 .f32) :
    FVec F S16x512 .f32 :=
  addf acc (matmul dot_S16x256_S256x512_S16x512_1_0_0_1_n_n none (shapeCast S16x256 x shapeCasts_S1x16x256_S16x256)
    (dense a b k s) (constant S16x512 .f32 0x00000000#32))

/-- The loaded rows of tile `t`. -/
abbrev rA (t : Fin 48) : Rect S3072x512 := Rect.unit (s := S3072x512) ![64 * t.val, 0] S32x512.size
  (by have := t.isLt; intro a; fin_cases a <;> simp <;> omega)
/-- The rows of the second 32 quads' code bytes of tile `t`. -/
abbrev rB (t : Fin 48) : Rect S3072x512 := Rect.unit (s := S3072x512) ![64 * t.val + 32, 0] S32x512.size
  (by have := t.isLt; intro a; fin_cases a <;> simp <;> omega)
/-- The rows of tile `t`'s mask bytes. -/
abbrev rK (t : Fin 48) : Rect S1536x512 := Rect.unit (s := S1536x512) ![32 * t.val, 0] S32x512.size
  (by have := t.isLt; intro a; fin_cases a <;> simp <;> omega)
/-- The rows of tile `t`'s scales. -/
abbrev rS (t : Fin 48) : Rect S96x512 := Rect.unit (s := S96x512) ![2 * t.val, 0] S2x512.size
  (by have := t.isLt; intro a; fin_cases a <;> simp <;> omega)
/-- Tile `t`'s activations. -/
abbrev rX (t : Fin 48) : Rect S48x16x256 := Rect.unit (s := S48x16x256) ![t.val, 0, 0] S1x16x256.size
  (by have := t.isLt; intro a; fin_cases a <;> simp <;> omega)

/-- Tile `t` of the body, over the whole blocks of the point. -/
def stepAt (x0 : Vec F S48x16x256 .bf16) (x1 : Vec F S3072x512 .i8) (x2 : Vec F S1536x512 .i8) (x3 : Vec F S96x512 .bf16)
    (t : Fin 48) (acc : FVec F S16x512 .f32) : FVec F S16x512 .f32 :=
  step (View.ld x1 (rA t)) (View.ld x1 (rB t)) (View.ld x2 (rK t)) (View.ld x3 (rS t)) (View.ld x0 (rX t)) acc

/-- The accumulator after the first `n` tiles, from zero. -/
def acc (x0 : Vec F S48x16x256 .bf16) (x1 : Vec F S3072x512 .i8) (x2 : Vec F S1536x512 .i8) (x3 : Vec F S96x512 .bf16) :
    (n : Nat) → n ≤ 48 → FVec F S16x512 .f32
  | 0, _ => broadcast S16x512 (Scalar.ofBits .f32 0x00000000#32 : F .f32)
  | n + 1, h => stepAt x0 x1 x2 x3 ⟨n, h⟩ (acc x0 x1 x2 x3 n (Nat.le_of_succ_le h))

/-- The body leaves in the result's block the accumulator after all 48 tiles, rounded to bf16. -/
theorem out_eq (x0 : Vec F S48x16x256 .bf16) (x1 : Vec F S3072x512 .i8) (x2 : Vec F S1536x512 .i8)
    (x3 : Vec F S96x512 .bf16) :
    out0_4 x0 x1 x2 x3 = View.canon [⟨r0_240, truncf .bf16 (acc x0 x1 x2 x3 48 (Nat.le_refl 48)) bitsLt_bf16_f32⟩] := rfl

end Cert.KernelIdeal.Tile

end
-- ==== Proof.Nibble.lean ====
/- Four-bit fields of 32-bit words: what the kernel's word operations do to one field, and what the words of the four
   positions of a quad hold where its mask keeps two of them. -/
module

public import Idealize.ShloMosaic.PureOps
public import Mathlib.Tactic.FinCases
public import Mathlib.Tactic.IntervalCases

@[expose] public section

namespace Cert.Nibble

/-- Field `i` of a word. -/
def nib (i : Nat) (w : BitVec 32) : BitVec 4 := w.extractLsb' (4 * i) 4

/-- A field as a number: divide by the place of the field, take the remainder by 16. -/
theorem nib_toNat (i : Nat) (w : BitVec 32) : (nib i w).toNat = w.toNat / 2 ^ (4 * i) % 16 := by
  simp [nib, BitVec.extractLsb'_toNat, Nat.shiftRight_eq_div_pow]

/-- A bit of a field is a bit of the word. -/
theorem nib_getLsbD (i b : Nat) (w : BitVec 32) : (nib i w).getLsbD b = (decide (b < 4) && w.getLsbD (4 * i + b)) := by
  simp [nib, BitVec.getLsbD_extractLsb']

/-- A field of a bitwise and is the bitwise and of the fields. -/
theorem nib_and (i : Nat) (v w : BitVec 32) : nib i (v &&& w) = nib i v &&& nib i w := by
  simp [nib, BitVec.extractLsb'_and]

/-- A field of an exclusive or is the exclusive or of the fields. -/
theorem nib_xor (i : Nat) (v w : BitVec 32) : nib i (v ^^^ w) = nib i v ^^^ nib i w := by
  simp [nib, BitVec.extractLsb'_xor]

/-- Each field of the word `0x11111111` is 1. -/
theorem nib_ones (i : Nat) (hi : i < 8) : nib i 286331153#32 = 1#4 := by
  interval_cases i <;> decide

/-- Each field of the word `0x88888888` is 8. -/
theorem nib_eights (i : Nat) (hi : i < 8) : nib i 2290649224#32 = 8#4 := by
  interval_cases i <;> decide

/-- The lowest bit of a field, copied to its four bits. -/
def full (n : BitVec 4) : BitVec 4 := if n.getLsbD 0 then 15#4 else 0#4

/-- A field is below 16. -/
theorem nib_lt (n : BitVec 4) : n.toNat < 16 := n.isLt

/-- The low bit of a field is at most 1. -/
theorem and_one_le (n : BitVec 4) : (n &&& 1#4).toNat ≤ 1 := by revert n; decide

/-- The field filled with a low bit is 15 times that bit. -/
theorem full_toNat (n : BitVec 4) : (full n).toNat = 15 * (n &&& 1#4).toNat := by revert n; decide

/-- A word is the sum of its fields. -/
theorem toNat_eq_sum (w : BitVec 32) : w.toNat = (nib 0 w).toNat + 16 * (nib 1 w).toNat + 256 * (nib 2 w).toNat
    + 4096 * (nib 3 w).toNat + 65536 * (nib 4 w).toNat + 1048576 * (nib 5 w).toNat + 16777216 * (nib 6 w).toNat
    + 268435456 * (nib 7 w).toNat := by
  have := w.isLt
  simp only [nib_toNat]
  norm_num
  omega

/-- Two fields are the same if their values are. -/
theorem nib_eq_of (i : Nat) (w : BitVec 32) (n : BitVec 4) (h : w.toNat / 2 ^ (4 * i) % 16 = n.toNat) : nib i w = n :=
  BitVec.eq_of_toNat_eq ((nib_toNat i w).trans h)

/-- Eight fields put in their places and added up: field `i` is the `i`-th. -/
theorem nib_pack (i : Fin 8) (n : Fin 8 → BitVec 4) (w : BitVec 32)
    (hw : w.toNat = ∑ j : Fin 8, (n j).toNat * 2 ^ (4 * j.val)) :
    nib i w = n i := by
  have h := fun j => (n j).isLt
  apply nib_eq_of
  rw [hw, Fin.sum_univ_eight]
  have h0 := h 0
  have h1 := h 1
  have h2 := h 2
  have h3 := h 3
  have h4 := h 4
  have h5 := h 5
  have h6 := h 6
  have h7 := h 7
  obtain ⟨i, hi⟩ := i
  have hn : (n ⟨i, hi⟩).toNat = if i = 0 then (n 0).toNat else if i = 1 then (n 1).toNat else if i = 2 then (n 2).toNat
      else if i = 3 then (n 3).toNat else if i = 4 then (n 4).toNat else if i = 5 then (n 5).toNat
      else if i = 6 then (n 6).toNat else (n 7).toNat := by
    interval_cases i <;> rfl
  rw [hn]
  clear hn hw
  interval_cases i <;> norm_num <;> omega

/-- Fifteen times the lowest bits of the fields fills the fields whose lowest bit is set. -/
theorem nib_fill (i : Nat) (hi : i < 8) (w : BitVec 32) :
    nib i (((w &&& 286331153#32) <<< 4) - (w &&& 286331153#32)) = full (nib i w) := by
  have hb : ∀ j, j < 8 → nib j (w &&& 286331153#32) = nib j w &&& 1#4 := fun j hj => by rw [nib_and, nib_ones j hj]
  generalize w &&& 286331153#32 = v at hb
  have hv := toNat_eq_sum v
  rw [hb 0 (by omega), hb 1 (by omega), hb 2 (by omega), hb 3 (by omega), hb 4 (by omega), hb 5 (by omega),
    hb 6 (by omega), hb 7 (by omega)] at hv
  have h0 := and_one_le (nib 0 w)
  have h1 := and_one_le (nib 1 w)
  have h2 := and_one_le (nib 2 w)
  have h3 := and_one_le (nib 3 w)
  have h4 := and_one_le (nib 4 w)
  have h5 := and_one_le (nib 5 w)
  have h6 := and_one_le (nib 6 w)
  have h7 := and_one_le (nib 7 w)
  have h15 : (v <<< 4 - v).toNat = 15 * v.toNat := by
    rw [BitVec.toNat_sub, BitVec.toNat_shiftLeft, Nat.shiftLeft_eq]
    omega
  refine nib_pack ⟨i, hi⟩ (fun j => full (nib j w)) _ ?_
  rw [h15, hv, Fin.sum_univ_eight]
  simp only [full_toNat]
  show _ = 15 * (nib 0 w &&& 1#4).toNat * 2 ^ 0 + 15 * (nib 1 w &&& 1#4).toNat * 2 ^ 4 + 15 * (nib 2 w &&& 1#4).toNat * 2 ^ 8
    + 15 * (nib 3 w &&& 1#4).toNat * 2 ^ 12 + 15 * (nib 4 w &&& 1#4).toNat * 2 ^ 16 + 15 * (nib 5 w &&& 1#4).toNat * 2 ^ 20
    + 15 * (nib 6 w &&& 1#4).toNat * 2 ^ 24 + 15 * (nib 7 w &&& 1#4).toNat * 2 ^ 28
  omega

/-- A field moved to the top of the word and shifted down with its sign is the field's signed value. -/
theorem toInt_spread (i : Nat) (hi : i < 8) (w : BitVec 32) :
    ((w <<< (28 - 4 * i)).sshiftRight 28).toInt = (nib i w).toInt := by
  rw [BitVec.toInt_sshiftRight, BitVec.toInt_eq_toNat_cond (nib i w), nib_toNat, BitVec.toInt_eq_toNat_cond, BitVec.toNat_shiftLeft,
    Nat.shiftLeft_eq, Int.shiftRight_eq_div_pow]
  have := w.isLt
  interval_cases i <;> norm_num <;> split_ifs <;> omega

/-- A field of a word shifted down by four is the next field. -/
theorem nib_ushiftRight_four (i : Nat) (w : BitVec 32) : nib i (w >>> 4) = nib (i + 1) w := by
  apply BitVec.eq_of_getLsbD_eq
  intro b hb
  rw [nib_getLsbD, nib_getLsbD, BitVec.getLsbD_ushiftRight]
  congr 2
  omega

/-- After a shift to the right by 3, a field's low bit is the bit 3 it had. -/
theorem nib_shift3_bit (i : Nat) (w : BitVec 32) : (nib i (w >>> 3)).getLsbD 0 = (nib i w).getLsbD 3 := by
  rw [nib_getLsbD, nib_getLsbD, BitVec.getLsbD_ushiftRight]
  simp [Nat.add_comm]

/-- After a shift to the right by 1, a field's low bit is the bit 1 it had. -/
theorem nib_shift1_bit (i : Nat) (w : BitVec 32) : (nib i (w >>> 1)).getLsbD 0 = (nib i w).getLsbD 1 := by
  rw [nib_getLsbD, nib_getLsbD, BitVec.getLsbD_ushiftRight]
  simp [Nat.add_comm]

/-- All four bits of a field, set or not. -/
def fullB (b : Bool) : BitVec 4 := if b then 15#4 else 0#4

/-- Position 0 of a quad, from its codes and its mask. -/
def q0 (c m : BitVec 4) : BitVec 4 := c &&& fullB (m.getLsbD 0)
/-- Position 3. -/
def q3 (d m : BitVec 4) : BitVec 4 := d &&& fullB (m.getLsbD 3)
/-- The bits positions 1 and 2 trade. -/
def qt (c d m : BitVec 4) : BitVec 4 := ((c ^^^ q0 c m) ^^^ (d ^^^ q3 d m)) &&& fullB (m.getLsbD 0 ^^ m.getLsbD 1)
/-- Position 1. -/
def q1 (c d m : BitVec 4) : BitVec 4 := (d ^^^ q3 d m) ^^^ qt c d m
/-- Position 2. -/
def q2 (c d m : BitVec 4) : BitVec 4 := (c ^^^ q0 c m) ^^^ qt c d m

/-- The number of positions a mask keeps. -/
def kept (m : BitVec 4) : Nat := (m.getLsbD 0).toNat + (m.getLsbD 1).toNat + (m.getLsbD 2).toNat + (m.getLsbD 3).toNat

/-- The weight code of position `p`: zero where the mask drops it, the first code at the first kept position and the
    second at a later one, each less eight. -/
def code (p : Nat) (c d m : BitVec 4) : Int :=
  if m.getLsbD p then (if (List.range p).any (fun q => m.getLsbD q) then (d.toNat : Int) - 8 else (c.toNat : Int) - 8) else 0

/-- Where the mask keeps two positions, position 0 holds its signed code. -/
theorem q0_toInt (c d m : BitVec 4) (h : kept m = 2) : (q0 (c ^^^ 8#4) m).toInt = code 0 c d m := by
  revert c d m; decide +kernel
/-- Where the mask keeps two positions, position 1 holds its signed code. -/
theorem q1_toInt (c d m : BitVec 4) (h : kept m = 2) : (q1 (c ^^^ 8#4) (d ^^^ 8#4) m).toInt = code 1 c d m := by
  revert c d m; decide +kernel
/-- Where the mask keeps two positions, position 2 holds its signed code. -/
theorem q2_toInt (c d m : BitVec 4) (h : kept m = 2) : (q2 (c ^^^ 8#4) (d ^^^ 8#4) m).toInt = code 2 c d m := by
  revert c d m; decide +kernel
/-- Where the mask keeps two positions, position 3 holds its signed code. -/
theorem q3_toInt (c d m : BitVec 4) (h : kept m = 2) : (q3 (d ^^^ 8#4) m).toInt = code 3 c d m := by
  revert c d m; decide +kernel

end Cert.Nibble

end
-- ==== Proof.Dense.lean ====
/- What a tile's dense weights are, element by element: the signed four-bit code of the position times the scale. -/
module

public import proofs.«01_k».proof.Proof.Tile
public import proofs.«01_k».proof.Proof.Nibble
public import Idealize.ShloMosaic.Lib.Pointwise
public import Idealize.ShloMosaic.Lib.BitcastFour
public import Idealize.ShloMosaic.Lib.WordSum

@[expose] public section

set_option maxRecDepth 16384

noncomputable section

namespace Cert.KernelIdeal.Tile

open Idealize.ShloMosaic Idealize.ShloMosaic.TcCoe Idealize.SL.Sem
open Cert.KernelIdeal Cert.KernelIdeal.Gen Cert.Nibble

variable {F : FTy → Type} [FloatOps F]

/-! ## Shifts by an amount below the width -/

/-- A shift to the left by a word that holds a number below 32 is the shift by that number. -/
theorem shli_eq (u : ArithUnit) (x y : BitVec 32) (n : Nat) (h : y.toNat = n) (hn : n < 32) : IntOp.shli u x y = x <<< n := by
  subst h
  simp [IntOp.shli, hn]

/-- A logical shift to the right by a word that holds a number below 32 is the shift by that number. -/
theorem shrui_eq (u : ArithUnit) (x y : BitVec 32) (n : Nat) (h : y.toNat = n) (hn : n < 32) : IntOp.shrui u x y = x >>> n := by
  subst h
  simp [IntOp.shrui, hn]

/-- An arithmetic shift to the right by a word that holds a number below 32 is the shift by that number. -/
theorem shrsi_eq (u : ArithUnit) (x y : BitVec 32) (n : Nat) (h : y.toNat = n) (hn : n < 32) :
    IntOp.shrsi u x y = x.sshiftRight n := by
  subst h
  simp [IntOp.shrsi, hn]

/-- The left shift that brings field `i` to the top of its word. -/
theorem shift_amount (i : Nat) (h : i < 8) : (IntOp.subi (28#32) (IntOp.muli (4#32) (BitVec.ofNat 32 i))).toNat = 28 - 4 * i := by
  interval_cases i <;> rfl

/-! ## The word operations, field by field -/

/-- Filling a word fills each field from its lowest bit. -/
theorem fill_at (w : IVec S8x512 32) (k : Fin 8) (l : Fin 512) (i : Nat) (hi : i < 8) :
    nib i (fill w (ix2 k l)) = full (nib i (w (ix2 k l))) := by
  pointwise [fill]
  exact nib_fill i hi _

/-- Row `r` of the spread words is field `r % 8` of word row `r / 8`, as a signed number. -/
theorem spread_at (w : IVec S8x512 32) (r : Fin 64) (l : Fin 512) :
    (spread w (ix2 r l)).toInt = (nib (r.val % 8) (w (ix2 ⟨r.val / 8, by omega⟩ l))).toInt := by
  pointwise [spread]
  have h : r.val % 8 < 8 := Nat.mod_lt _ (by decide)
  rw [shrsi_eq _ _ _ 28 rfl (by decide), shli_eq _ _ _ (28 - 4 * (r.val % 8)) (shift_amount _ h) (by omega)]
  exact toInt_spread _ h _

/-- Each of the eight copies of a row holds the row's entries. -/
theorem eight_at (r : FVec F S1x512 .bf16) (k : Fin 8) (l : Fin 512) : eight r (ix2 k l) = r (ix2 0 l) := by
  pointwise [eight]
  split_ifs <;> exact congrArg r (by idx_ext)

/-- Each of the sixteen copies of a row holds the row's entries. -/
theorem sixteen_at (r : FVec F S1x512 .bf16) (k : Fin 16) (l : Fin 512) : sixteen r (ix2 k l) = r (ix2 0 l) := by
  pointwise [sixteen, eight_at]
  split_ifs <;> rfl

/-- The first row of scales covers the first 32 quads of a tile, the second the others. -/
theorem scales_at (s : Vec Ideal S2x512 .bf16) (q : Fin 64) (l : Fin 512) :
    scales s (ix2 q l) = s (ix2 (if q.val < 32 then 0 else 1) l) := by
  pointwise [scales, sixteen_at]
  split_ifs <;> first | rfl | omega

/-- The low half of byte row `r` is an even field of word row `r / 4`. -/
theorem byte_low (w : IVec S8x512 32) (r : Fin 32) (l : Fin 512) :
    BitVec.setWidth 4 (bitcast S32x512 8 w bitcasts_S8x512_w32_S32x512_w8 (ix2 r l))
      = nib (2 * (r.val % 4)) (w (ix2 ⟨r.val / 4, by omega⟩ l)) := by
  apply BitVec.eq_of_getLsbD_eq
  intro b hb
  rw [BitVec.getLsbD_setWidth, bitcast_getLsbD _ _ _ b (by omega) (by decide), nib_getLsbD]
  have hrow : Shape.row S32x512 (ix2 r l) = r.val := by rfl
  simp only [hb, decide_true, Bool.true_and]
  rw [show (Shape.row S32x512 (ix2 r l) * 8 + b) % 32 = 4 * (2 * (r.val % 4)) + b by rw [hrow]; omega]
  refine congrArg (fun i => (w i).getLsbD (4 * (2 * (r.val % 4)) + b)) ?_
  funext c
  match c with
  | ⟨0, _⟩ => exact Fin.ext ((Shape.Bitcasts.srcIdx_row _ _ _ _ ⟨0, Nat.zero_lt_two⟩ rfl).trans (by rw [hrow]; show _ = r.val / 4; omega))
  | ⟨1, _⟩ => exact Fin.ext (Shape.Bitcasts.srcIdx_other _ _ _ _ ⟨1, Nat.one_lt_two⟩ (by show ¬ 1 + 2 = 2; omega))

/-- Field `i` of word row `k` is a half of byte row `4k + i / 2`. -/
theorem words_nib (a : IVec S32x512 8) (k : Fin 8) (l : Fin 512) (i : Nat) (hi : i < 8) :
    nib i (words (F := Ideal) a (ix2 k l))
      = (a (ix2 ⟨4 * k.val + i / 2, by omega⟩ l)).extractLsb' (4 * (i % 2)) 4 := by
  apply BitVec.eq_of_getLsbD_eq
  intro b hb
  rw [nib_getLsbD, words]
  rw [BitVec.getLsbD_extractLsb', show 4 * (i % 2) + b = (4 * i + b) % 8 by omega]
  exact congrArg (decide (b < 4) && ·)
    (bitcast_8_32_getLsbD_ix2 a _ k l (4 * i + b) (by omega) ⟨4 * k.val + i / 2, by omega⟩ (by simp only []; omega))

/-- A word's fields put together from the low halves of bytes, the top bits flipped. -/
theorem pack_word (n : Fin 8 → BitVec 4) (i : Fin 8) :
    nib i (IntOp.xori (Finset.univ.fold IntOp.addi (0#32) fun x : Fin 8 =>
      IntOp.shli .vector (IntOp.andi ((n x).signExtend 32) 15#32) (IntOp.muli (4#32) (BitVec.ofNat 32 x.val))) 2290649224#32)
      = n i ^^^ 8#4 := by
  have hone : ∀ v : BitVec 4, (v.signExtend 32 &&& 15#32).toNat = v.toNat := by decide
  have hterm : ∀ x : Fin 8, (IntOp.shli .vector (IntOp.andi ((n x).signExtend 32) 15#32)
      (IntOp.muli (4#32) (BitVec.ofNat 32 x.val))).toNat = (n x).toNat * 2 ^ (4 * x.val) := by
    intro x
    rw [shli_eq _ _ _ (4 * x.val) (by fin_cases x <;> rfl) (by omega), BitVec.toNat_shiftLeft, IntOp.andi, hone, Nat.shiftLeft_eq]
    apply Nat.mod_eq_of_lt
    have := (n x).isLt
    have hx : 2 ^ (4 * x.val) ≤ 2 ^ 28 := Nat.pow_le_pow_right (by decide) (by omega)
    calc (n x).toNat * 2 ^ (4 * x.val) ≤ 15 * 2 ^ 28 := Nat.mul_le_mul (by omega) hx
      _ < 2 ^ 32 := by decide
  have hsum : Finset.univ.fold IntOp.addi (0#32) (fun x : Fin 8 =>
      IntOp.shli .vector (IntOp.andi ((n x).signExtend 32) 15#32) (IntOp.muli (4#32) (BitVec.ofNat 32 x.val)))
      = ∑ x : Fin 8, IntOp.shli .vector (IntOp.andi ((n x).signExtend 32) 15#32) (IntOp.muli (4#32) (BitVec.ofNat 32 x.val)) :=
    rfl
  rw [hsum, IntOp.xori, nib_xor, nib_eights _ i.isLt]
  refine congrArg (· ^^^ 8#4) (nib_pack i n _ ?_)
  rw [WordSum.toNat_sum]
  · exact Finset.sum_congr rfl fun x _ => hterm x
  · simp only [hterm]
    rw [Fin.sum_univ_eight]
    have h := fun j => (n j).isLt
    have h0 := h 0
    have h1 := h 1
    have h2 := h 2
    have h3 := h 3
    have h4 := h 4
    have h5 := h 5
    have h6 := h 6
    have h7 := h 7
    norm_num
    omega

/-- Field `i` of packed word row `k`: the low half of byte row `8k + i` of the two groups, its top bit flipped. -/
theorem pack_at (w0 w1 : IVec S8x512 32) (k : Fin 8) (l : Fin 512) (i : Fin 8) :
    nib i (pack w0 w1 (ix2 k l)) = (if h : 8 * k.val + i.val < 32 then nib (2 * (i.val % 4)) (w0 (ix2 ⟨(8 * k.val + i.val) / 4, by omega⟩ l))
      else nib (2 * (i.val % 4)) (w1 (ix2 ⟨(8 * k.val + i.val - 32) / 4, by omega⟩ l))) ^^^ 8#4 := by
  pointwise [pack]
  rw [pack_word (fun x => BitVec.setWidth 4 (if h : k.val * 8 + x.val < 32 then
      bitcast S32x512 8 w0 bitcasts_S8x512_w32_S32x512_w8 (ix2 ⟨k.val * 8 + x.val, h⟩ l)
    else bitcast S32x512 8 w1 bitcasts_S8x512_w32_S32x512_w8 (ix2 ⟨k.val * 8 + x.val - 32, by omega⟩ l))) i]
  refine congrArg (· ^^^ 8#4) ?_
  by_cases h : k.val * 8 + i.val < 32
  · rw [dif_pos h, dif_pos (by omega), byte_low]
    simp only [show k.val * 8 + i.val = 8 * k.val + i.val by omega, show (8 * k.val + i.val) % 4 = i.val % 4 by omega]
  · rw [dif_neg h, dif_neg (by omega), byte_low]
    simp only [show k.val * 8 + i.val - 32 = 8 * k.val + i.val - 32 by omega, show (8 * k.val + i.val - 32) % 4 = i.val % 4 by omega]

end Cert.KernelIdeal.Tile

end
-- ==== Proof.Weight.lean ====
/- A tile's dense weights, element by element: the code of the position its mask selects, times the scale of the quad. -/
module

public import proofs.«01_k».proof.Proof.Dense

@[expose] public section

set_option maxRecDepth 16384

noncomputable section

namespace Cert.KernelIdeal.Tile

open Idealize.ShloMosaic Idealize.ShloMosaic.TcCoe Idealize.SL.Sem
open Cert.KernelIdeal Cert.KernelIdeal.Gen Cert.Nibble

/-! ## The words of the four positions, field by field -/

/-- A field of position 0's words, from the fields of the codes and the mask. -/
theorem pos0_at (c m : IVec S8x512 32) (k : Fin 8) (l : Fin 512) (i : Nat) (hi : i < 8) :
    nib i (pos0 c m (ix2 k l)) = q0 (nib i (c (ix2 k l))) (nib i (m (ix2 k l))) := by
  show nib i (c (ix2 k l) &&& fill m (ix2 k l)) = _
  rw [nib_and, fill_at _ _ _ _ hi]
  rfl

/-- A field of position 3's words, from the fields of the codes and the mask. -/
theorem pos3_at (d m : IVec S8x512 32) (k : Fin 8) (l : Fin 512) (i : Nat) (hi : i < 8) :
    nib i (pos3 d m (ix2 k l)) = q3 (nib i (d (ix2 k l))) (nib i (m (ix2 k l))) := by
  show nib i (d (ix2 k l) &&& fill (shrui m (broadcast S8x512 3#32)) (ix2 k l)) = _
  rw [nib_and, fill_at _ _ _ _ hi]
  show nib i (d (ix2 k l)) &&& fullB ((nib i (m (ix2 k l) >>> 3)).getLsbD 0) = _
  rw [nib_shift3_bit]
  rfl

/-- A field of the words that say what positions 1 and 2 trade. -/
theorem trade_at (c d m : IVec S8x512 32) (k : Fin 8) (l : Fin 512) (i : Nat) (hi : i < 8) :
    nib i (trade c d m (ix2 k l)) = qt (nib i (c (ix2 k l))) (nib i (d (ix2 k l))) (nib i (m (ix2 k l))) := by
  show nib i (((c (ix2 k l) ^^^ pos0 c m (ix2 k l)) ^^^ (d (ix2 k l) ^^^ pos3 d m (ix2 k l))) &&&
    fill (xori m (shrui m (broadcast S8x512 1#32))) (ix2 k l)) = _
  rw [nib_and, nib_xor, nib_xor, nib_xor, pos0_at _ _ _ _ _ hi, pos3_at _ _ _ _ _ hi, fill_at _ _ _ _ hi]
  show _ &&& fullB ((nib i (m (ix2 k l) ^^^ m (ix2 k l) >>> 1)).getLsbD 0) = _
  rw [nib_xor, BitVec.getLsbD_xor, nib_shift1_bit]
  rfl

/-- A field of position 1's words, from the fields of the codes and the mask. -/
theorem pos1_at (c d m : IVec S8x512 32) (k : Fin 8) (l : Fin 512) (i : Nat) (hi : i < 8) :
    nib i (pos1 c d m (ix2 k l)) = q1 (nib i (c (ix2 k l))) (nib i (d (ix2 k l))) (nib i (m (ix2 k l))) := by
  show nib i ((d (ix2 k l) ^^^ pos3 d m (ix2 k l)) ^^^ trade c d m (ix2 k l)) = _
  rw [nib_xor, nib_xor, pos3_at _ _ _ _ _ hi, trade_at _ _ _ _ _ _ hi]
  rfl

/-- A field of position 2's words, from the fields of the codes and the mask. -/
theorem pos2_at (c d m : IVec S8x512 32) (k : Fin 8) (l : Fin 512) (i : Nat) (hi : i < 8) :
    nib i (pos2 c d m (ix2 k l)) = q2 (nib i (c (ix2 k l))) (nib i (d (ix2 k l))) (nib i (m (ix2 k l))) := by
  show nib i ((c (ix2 k l) ^^^ pos0 c m (ix2 k l)) ^^^ trade c d m (ix2 k l)) = _
  rw [nib_xor, nib_xor, pos0_at _ _ _ _ _ hi, trade_at _ _ _ _ _ _ hi]
  rfl

/-! ## The fields as halves of the loaded bytes -/

/-- The byte with the two codes of quad `q` of a tile: 32 quads in each of the tile's two blocks. -/
def quadByte (a b : Vec Ideal S32x512 .i8) (q : Fin 64) (l : Fin 512) : BitVec 8 :=
  if h : q.val < 32 then a (ix2 ⟨q.val, h⟩ l) else b (ix2 ⟨q.val - 32, by omega⟩ l)

/-- The mask of quad `q` of a tile: half a byte. -/
def quadMask (k : Vec Ideal S32x512 .i8) (q : Fin 64) (l : Fin 512) : BitVec 4 :=
  (k (ix2 ⟨q.val / 2, by omega⟩ l)).extractLsb' (4 * (q.val % 2)) 4

/-- The packed first codes: a quad's field is its byte's low field with the sign bit flipped. -/
theorem low_at (a b : Vec Ideal S32x512 .i8) (q : Fin 64) (l : Fin 512) :
    nib (q.val % 8) (pack (words (F := Ideal) a) (words (F := Ideal) b) (ix2 ⟨q.val / 8, by omega⟩ l))
      = (quadByte a b q l).extractLsb' 0 4 ^^^ 8#4 := by
  refine (pack_at _ _ ⟨q.val / 8, by omega⟩ l ⟨q.val % 8, by omega⟩).trans (congrArg (· ^^^ 8#4) ?_)
  unfold quadByte
  by_cases h : q.val < 32
  · rw [dif_pos (by simp only []; omega), dif_pos h, words_nib _ _ _ _ (by simp only []; omega)]
    simp only [show 4 * ((8 * (q.val / 8) + q.val % 8) / 4) + 2 * (q.val % 8 % 4) / 2 = q.val by omega,
      show 4 * (2 * (q.val % 8 % 4) % 2) = 0 by omega]
  · rw [dif_neg (by simp only []; omega), dif_neg h, words_nib _ _ _ _ (by simp only []; omega)]
    simp only [show 4 * ((8 * (q.val / 8) + q.val % 8 - 32) / 4) + 2 * (q.val % 8 % 4) / 2 = q.val - 32 by omega,
      show 4 * (2 * (q.val % 8 % 4) % 2) = 0 by omega]

/-- A shift to the right by 4 moves each field down by one. -/
theorem down4_nib (w : IVec S8x512 32) (k : Fin 8) (l : Fin 512) (i : Nat) :
    nib i (down4 w (ix2 k l)) = nib (i + 1) (w (ix2 k l)) := nib_ushiftRight_four i _

/-- The packed second codes: a quad's field is its byte's high field with the sign bit flipped. -/
theorem high_at (a b : Vec Ideal S32x512 .i8) (q : Fin 64) (l : Fin 512) :
    nib (q.val % 8) (pack (down4 (words (F := Ideal) a)) (down4 (words (F := Ideal) b)) (ix2 ⟨q.val / 8, by omega⟩ l))
      = (quadByte a b q l).extractLsb' 4 4 ^^^ 8#4 := by
  refine (pack_at _ _ ⟨q.val / 8, by omega⟩ l ⟨q.val % 8, by omega⟩).trans (congrArg (· ^^^ 8#4) ?_)
  unfold quadByte
  by_cases h : q.val < 32
  · rw [dif_pos (by simp only []; omega), dif_pos h, down4_nib, words_nib _ _ _ _ (by simp only []; omega)]
    simp only [show 4 * ((8 * (q.val / 8) + q.val % 8) / 4) + (2 * (q.val % 8 % 4) + 1) / 2 = q.val by omega,
      show 4 * ((2 * (q.val % 8 % 4) + 1) % 2) = 4 by omega]
  · rw [dif_neg (by simp only []; omega), dif_neg h, down4_nib, words_nib _ _ _ _ (by simp only []; omega)]
    simp only [show 4 * ((8 * (q.val / 8) + q.val % 8 - 32) / 4) + (2 * (q.val % 8 % 4) + 1) / 2 = q.val - 32 by omega,
      show 4 * ((2 * (q.val % 8 % 4) + 1) % 2) = 4 by omega]

/-- The mask words: a quad's field is its mask. -/
theorem mask_at (k : Vec Ideal S32x512 .i8) (q : Fin 64) (l : Fin 512) :
    nib (q.val % 8) (words (F := Ideal) k (ix2 ⟨q.val / 8, by omega⟩ l)) = quadMask k q l := by
  rw [words_nib _ _ _ _ (by omega)]
  simp only [quadMask, show 4 * (q.val / 8) + q.val % 8 / 2 = q.val / 2 by omega, show q.val % 8 % 2 = q.val % 2 by omega]

/-! ## The weights -/

/-- A weight: the signed field of its word times its scale. -/
theorem weight_at (w : IVec S8x512 32) (s : Vec Ideal S2x512 .bf16) (q : Fin 64) (l : Fin 512) :
    weight (F := Ideal) w s (ix2 q l) = (((nib (q.val % 8) (w (ix2 ⟨q.val / 8, by omega⟩ l))).toInt : ℝ) : EReal)
      * s (ix2 (if q.val < 32 then 0 else 1) l) := by
  rw [← spread_at w q l, ← scales_at s q l]
  rfl

/-- Four blocks of 64 rows, one below the other, row by row. -/
theorem four_at (A B C D : FVec Ideal S64x512 .bf16) (r : Fin 256) (l : Fin 512) :
    concatenate S256x512 0 [⟨S64x512, A⟩, ⟨S64x512, B⟩, ⟨S64x512, C⟩, ⟨S64x512, D⟩]
        concatenates_S64x512_S64x512_S64x512_S64x512_S256x512_d0 (ix2 r l)
      = (if r.val < 64 then A else if r.val < 128 then B else if r.val < 192 then C else D) (ix2 ⟨r.val % 64, by omega⟩ l) := by
  pointwise []
  have key : ∀ (w : FVec Ideal S64x512 .bf16) (z z' : Fin 64), z.val = z'.val → w (ix2 z l) = w (ix2 z' l) :=
    fun w z z' hz => by rw [Fin.ext hz]
  have hr := r.isLt
  by_cases h0 : r.val < 64
  · simp only [h0, if_true, dif_pos]
    exact key _ _ _ (by simp only []; omega)
  by_cases h1 : r.val < 128
  · simp only [h0, h1, show r.val - 64 < 64 by omega, if_true, if_false, dif_pos, dif_neg, not_false_eq_true]
    exact key _ _ _ (by simp only []; omega)
  by_cases h2 : r.val < 192
  · simp only [h0, h1, h2, show ¬ r.val - 64 < 64 by omega, show r.val - 64 - 64 < 64 by omega, if_true, if_false, dif_pos, dif_neg, not_false_eq_true]
    exact key _ _ _ (by simp only []; omega)
  simp only [h0, h1, h2, show ¬ r.val - 64 < 64 by omega, show ¬ r.val - 64 - 64 < 64 by omega, if_true, if_false, dif_pos, dif_neg, not_false_eq_true]
  exact key _ _ _ (by simp only []; omega)

/-- A dense weight of a tile whose masks keep two positions of every quad: the code the mask selects, times the scale. -/
theorem dense_at (a b k : Vec Ideal S32x512 .i8) (s : Vec Ideal S2x512 .bf16) (r : Fin 256) (l : Fin 512)
    (h : kept (quadMask k ⟨r.val % 64, by omega⟩ l) = 2) :
    dense (F := Ideal) a b k s (ix2 r l) = ((code (r.val / 64) ((quadByte a b ⟨r.val % 64, by omega⟩ l).extractLsb' 0 4)
        ((quadByte a b ⟨r.val % 64, by omega⟩ l).extractLsb' 4 4) (quadMask k ⟨r.val % 64, by omega⟩ l) : ℝ) : EReal)
      * s (ix2 (if r.val % 64 < 32 then 0 else 1) l) := by
  have hi : r.val % 64 % 8 < 8 := Nat.mod_lt _ (by decide)
  have hl := low_at a b ⟨r.val % 64, by omega⟩ l
  have hh := high_at a b ⟨r.val % 64, by omega⟩ l
  have hm := mask_at k ⟨r.val % 64, by omega⟩ l
  have hr := r.isLt
  have key : ∀ (w : IVec S8x512 32) (z : Int), (nib (r.val % 64 % 8) (w (ix2 ⟨r.val % 64 / 8, by omega⟩ l))).toInt = z →
      weight (F := Ideal) w s (ix2 ⟨r.val % 64, by omega⟩ l) = ((z : ℝ) : EReal) * s (ix2 (if r.val % 64 < 32 then 0 else 1) l) :=
    fun w z hz => by rw [weight_at, hz]
  refine (four_at _ _ _ _ r l).trans ?_
  by_cases h0 : r.val < 64
  · rw [if_pos h0, show r.val / 64 = 0 by omega]
    exact key _ _ (((congrArg BitVec.toInt (pos0_at _ _ _ _ _ hi)).trans (by rw [hl, hm])).trans (q0_toInt _ _ _ h))
  rw [if_neg h0]
  by_cases h1 : r.val < 128
  · rw [if_pos h1, show r.val / 64 = 1 by omega]
    exact key _ _ (((congrArg BitVec.toInt (pos1_at _ _ _ _ _ _ hi)).trans (by rw [hl, hh, hm])).trans (q1_toInt _ _ _ h))
  rw [if_neg h1]
  by_cases h2 : r.val < 192
  · rw [if_pos h2, show r.val / 64 = 2 by omega]
    exact key _ _ (((congrArg BitVec.toInt (pos2_at _ _ _ _ _ _ hi)).trans (by rw [hl, hh, hm])).trans (q2_toInt _ _ _ h))
  rw [if_neg h2, show r.val / 64 = 3 by omega]
  exact key _ _ (((congrArg BitVec.toInt (pos3_at _ _ _ _ _ hi)).trans (by rw [hh, hm])).trans (q3_toInt _ _ _ h))

end Cert.KernelIdeal.Tile

end
-- ==== Proof.Block.lean ====
/- The body's result block, element by element: a sum over the 48 tiles and the 256 rows of each. -/
module

public import proofs.«01_k».proof.Proof.Weight
public import Idealize.ShloMosaic.Lib.Pipeline.ValueKit

@[expose] public section

set_option maxRecDepth 16384

noncomputable section

namespace Cert.KernelIdeal.Tile

open Idealize.ShloMosaic Idealize.ShloMosaic.TcCoe Idealize.SL.Sem
open Cert.KernelIdeal Cert.KernelIdeal.Gen Cert.Nibble

/-- The mask of quad `q` of a block of mask bytes: half a byte. -/
def blockMask (x2 : Vec Ideal S1536x512 .i8) (q : Fin 3072) (l : Fin 512) : BitVec 4 :=
  (x2 (ix2 ⟨q.val / 2, by omega⟩ l)).extractLsb' (4 * (q.val % 2)) 4

/-- The dense weight of position `p` of quad `q` in a block: its code times its scale. -/
def blockWeight (x1 : Vec Ideal S3072x512 .i8) (x2 : Vec Ideal S1536x512 .i8) (x3 : Vec Ideal S96x512 .bf16)
    (q : Fin 3072) (p : Nat) (l : Fin 512) : EReal :=
  ((code p ((x1 (ix2 q l)).extractLsb' 0 4) ((x1 (ix2 q l)).extractLsb' 4 4) (blockMask x2 q l) : ℝ) : EReal)
    * x3 (ix2 ⟨q.val / 32, by omega⟩ l)

/-- The quad of row `k` of tile `t`. -/
def quadOf (t : Fin 48) (k : Fin 256) : Fin 3072 := ⟨64 * t.val + k.val % 64, by omega⟩

/-- The code byte of a tile's quad is the block's byte in the row of that quad. -/
theorem quadByte_ld (x1 : Vec Ideal S3072x512 .i8) (t : Fin 48) (q : Fin 64) (l : Fin 512) :
    quadByte (View.ld x1 (rA t)) (View.ld x1 (rB t)) q l = x1 (ix2 ⟨64 * t.val + q.val, by omega⟩ l) := by
  unfold quadByte
  split_ifs with h
  · pointwise []
  · pointwise []
    exact congrArg (fun r => x1 (ix2 r l)) (Fin.ext (by simp only []; omega))

/-- The mask of a tile's quad is the block's mask of that quad. -/
theorem quadMask_ld (x2 : Vec Ideal S1536x512 .i8) (t : Fin 48) (q : Fin 64) (l : Fin 512) :
    quadMask (View.ld x2 (rK t)) q l = blockMask x2 ⟨64 * t.val + q.val, by omega⟩ l := by
  unfold quadMask blockMask
  pointwise []
  simp only [show (64 * t.val + q.val) % 2 = q.val % 2 by omega, show (64 * t.val + q.val) / 2 = 32 * t.val + q.val / 2 by omega]

/-- The scale a tile loads for a quad is the block's scale of the group of 32 quads it lies in. -/
theorem scale_ld (x3 : Vec Ideal S96x512 .bf16) (t : Fin 48) (q : Fin 64) (l : Fin 512) :
    View.ld x3 (rS t) (ix2 (if q.val < 32 then 0 else 1) l) = x3 (ix2 ⟨(64 * t.val + q.val) / 32, by omega⟩ l) := by
  pointwise []
  exact congrArg (fun r => x3 (ix2 r l)) (Fin.ext (by split_ifs <;> simp <;> omega))

/-- One tile adds to an entry the product of a row of activations and a column of decoded weights. -/
theorem stepAt_at (x0 : Vec Ideal S48x16x256 .bf16) (x1 : Vec Ideal S3072x512 .i8) (x2 : Vec Ideal S1536x512 .i8)
    (x3 : Vec Ideal S96x512 .bf16) (t : Fin 48) (a : FVec Ideal S16x512 .f32) (b : Fin 16) (l : Fin 512) :
    stepAt (F := Ideal) x0 x1 x2 x3 t a (ix2 b l) = a (ix2 b l) + ∑ k : Fin 256, x0 (ix3 t b k)
      * dense (F := Ideal) (View.ld x1 (rA t)) (View.ld x1 (rB t)) (View.ld x2 (rK t)) (View.ld x3 (rS t)) (ix2 k l) := by
  pointwise [stepAt, step]

/-- The accumulator after `n` tiles, where the masks keep two positions of every quad. -/
theorem acc_at (x0 : Vec Ideal S48x16x256 .bf16) (x1 : Vec Ideal S3072x512 .i8) (x2 : Vec Ideal S1536x512 .i8)
    (x3 : Vec Ideal S96x512 .bf16) (b : Fin 16) (l : Fin 512) (hm : ∀ q, kept (blockMask x2 q l) = 2) :
    ∀ (n : Nat) (hn : n ≤ 48), acc (F := Ideal) x0 x1 x2 x3 n hn (ix2 b l) = ∑ t : Fin n, ∑ k : Fin 256,
      x0 (ix3 (t.castLE hn) b k) * blockWeight x1 x2 x3 (quadOf (t.castLE hn) k) (k.val / 64) l
  | 0, hn => by
    rw [Fin.sum_univ_zero]
    exact Ideal.ofBits_zero .f32
  | n + 1, hn => by
    rw [Fin.sum_univ_castSucc]
    refine (stepAt_at x0 x1 x2 x3 ⟨n, hn⟩ _ b l).trans (congrArg₂ (· + ·) (acc_at x0 x1 x2 x3 b l hm n (Nat.le_of_succ_le hn)) ?_)
    refine Finset.sum_congr rfl fun k _ => congrArg (x0 (ix3 ⟨n, hn⟩ b k) * ·) ?_
    rw [dense_at _ _ _ _ k l (by rw [quadMask_ld]; exact hm _), quadByte_ld, quadMask_ld]
    exact congrArg (_ * ·) (scale_ld x3 ⟨n, hn⟩ ⟨k.val % 64, by omega⟩ l)

/-- The body's result block, where the masks keep two positions of every quad. -/
theorem out_at (x0 : Vec Ideal S48x16x256 .bf16) (x1 : Vec Ideal S3072x512 .i8) (x2 : Vec Ideal S1536x512 .i8)
    (x3 : Vec Ideal S96x512 .bf16) (b : Fin 16) (l : Fin 512) (hm : ∀ q, kept (blockMask x2 q l) = 2) :
    out0_4 (F := Ideal) x0 x1 x2 x3 (ix2 b l) = ∑ t : Fin 48, ∑ k : Fin 256,
      x0 (ix3 t b k) * blockWeight x1 x2 x3 (quadOf t k) (k.val / 64) l := by
  rw [out_eq]
  frame_out
  exact acc_at x0 x1 x2 x3 b l hm 48 (Nat.le_refl 48)

end Cert.KernelIdeal.Tile

end
-- ==== Proof.Value.lean ====
/- The kernel's result array after the run, element by element, as a sum over the tiles and rows of the whole weight matrix. -/
module

public import proofs.«01_k».proof.Proof.Block

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Nibble Cert.KernelIdeal.Tile

variable (m : (ℓ : Loc nD τ sig) → Buf (Elt Ideal) ℓ)

/-- The windows' block indices: the inputs whole, the others the point's 512 columns. -/
theorem idx : ∀ t : Fin cfg0.N, win0_0.index t = ![0, 0, 0] ∧ win0_1.index t = ![0, t.val] ∧ win0_2.index t = ![0, t.val]
    ∧ win0_3.index t = ![0, t.val] ∧ win0_4.index t = ![0, t.val] :=
  (by decide +kernel : ∀ t : Fin grid0.N, _)

/-- The mask of quad `q` in column `n`: half a byte of the mask array. -/
def mask (M : Vec Ideal S1536x28672 .i8) (q : Fin 3072) (n : Fin 28672) : BitVec 4 :=
  (M (ix2 ⟨q.val / 2, by omega⟩ n)).extractLsb' (4 * (q.val % 2)) 4

/-- The dense weight of position `p` of quad `q` in column `n`: its code times its scale. -/
def wt (V : Vec Ideal S3072x28672 .i8) (M : Vec Ideal S1536x28672 .i8) (S : Vec Ideal S96x28672 .bf16)
    (q : Fin 3072) (p : Nat) (n : Fin 28672) : EReal :=
  ((code p ((V (ix2 q n)).extractLsb' 0 4) ((V (ix2 q n)).extractLsb' 4 4) (mask M q n) : ℝ) : EReal)
    * S (ix2 ⟨q.val / 32, by omega⟩ n)

/-- The rearranged inputs times the weights. -/
def product (x : Vec Ideal S48x16x256 .bf16) (V : Vec Ideal S3072x28672 .i8) (M : Vec Ideal S1536x28672 .i8)
    (S : Vec Ideal S96x28672 .bf16) : FVec Ideal S16x28672 .bf16 :=
  fun i => ∑ t : Fin 48, ∑ k : Fin 256, x (ix3 t (i 0) k) * wt V M S (quadOf t k) (k.val / 64) (i 1)

/-- The array's column under lane `l` of point `t`. -/
def col (t : Fin cfg0.N) (l : Fin 512) : Fin 28672 :=
  ⟨t.val * 512 + l.val, by have h : t.val < 56 := t.isLt; omega⟩

/-- Every grid point's block of activations is the whole array. -/
theorem blk_x (c : Dev nD) (t : Fin cfg0.N) (i : Fin 48) (b : Fin 16) (k : Fin 256) :
    iblk m c 0 t (ix3 i b k) = V m c main_v3 (ix3 i b k) := by
  blk_ext [iblk, idx t]

/-- A grid point's block of codes is its 512 columns of the array. -/
theorem blk_vals (c : Dev nD) (t : Fin cfg0.N) (q : Fin 3072) (l : Fin 512) :
    iblk m c 1 t (ix2 q l) = m ((c : Thread nD τ).loc main_arg1) (ix2 q (col t l)) := by
  rw [← V_main_arg1 m c]
  blk_ext [iblk, idx t, col]

/-- A grid point's block of masks is its 512 columns of the array. -/
theorem blk_mask (c : Dev nD) (t : Fin cfg0.N) (q : Fin 1536) (l : Fin 512) :
    iblk m c 2 t (ix2 q l) = m ((c : Thread nD τ).loc main_arg2) (ix2 q (col t l)) := by
  rw [← V_main_arg2 m c]
  blk_ext [iblk, idx t, col]

/-- A grid point's block of scales is its 512 columns of the array. -/
theorem blk_scales (c : Dev nD) (t : Fin cfg0.N) (q : Fin 96) (l : Fin 512) :
    iblk m c 3 t (ix2 q l) = m ((c : Thread nD τ).loc main_arg3) (ix2 q (col t l)) := by
  rw [← V_main_arg3 m c]
  blk_ext [iblk, idx t, col]

/-- A block's weights are the array's under the block. -/
theorem weight_blk (c : Dev nD) (t : Fin cfg0.N) (q : Fin 3072) (p : Nat) (l : Fin 512) :
    blockWeight (iblk m c 1 t) (iblk m c 2 t) (iblk m c 3 t) q p l
      = wt (m ((c : Thread nD τ).loc main_arg1)) (m ((c : Thread nD τ).loc main_arg2)) (m ((c : Thread nD τ).loc main_arg3)) q p (col t l) := by
  unfold blockWeight wt blockMask mask
  rw [blk_vals, blk_mask, blk_scales]

/-- The region's result array after all points, where the masks keep two positions of every quad. -/
theorem final (c : Dev nD) (hm : ∀ q n, kept (mask (m ((c : Thread nD τ).loc main_arg2)) q n) = 2) :
    (dats m 0 c).arrAt 4 (cfgs 0).N = product (V m c main_v3) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have e : ((View.whole main_v4).slice (win0_4.rect t)).emb (ix2 y0 y1) = (ix2 y0 (col t y1) : S16x28672.Idx) := by
    blk_ext [idx t, col]
  rw [e]
  refine (out_at _ _ _ _ y0 y1 fun q => ?_).trans ?_
  · have h := hm q (col t y1)
    unfold mask at h
    unfold blockMask
    rw [blk_mask]
    exact h
  · refine Finset.sum_congr rfl fun i _ => Finset.sum_congr rfl fun k _ => ?_
    rw [blk_x, weight_blk]
    rfl

/-- The inputs tile by tile, position by position within a tile, padded to 16 rows. -/
def arranged (X : FVec Ideal S6x1x12288 .bf16) : FVec Ideal S48x16x256 .bf16 :=
  pad S48x16x256 ![0, 0, 0] ![0, 10, 0] ![0, 0, 0]
    (shapeCast S48x6x256 (transpose S48x6x4x64 [1, 0, 3, 2] (shapeCast S6x48x64x4 X shapeCasts_S6x1x12288_S6x48x64x4)
      transposes_S6x48x64x4_S48x6x4x64_1_0_3_2) shapeCasts_S48x6x4x64_S48x6x256)
    (sitofp .bf16 (constantI S_ 32 0#32)) pads_S48x6x256_S48x16x256_000_0100_000 h_S_

/-- The activations in the kernel's order, before the padding: position by position within a tile. -/
theorem unpadded_at (X : FVec Ideal S6x1x12288 .bf16) (t : Fin 48) (b : Fin 6) (k : Fin 256) :
    shapeCast S48x6x256 (transpose S48x6x4x64 [1, 0, 3, 2] (shapeCast S6x48x64x4 X shapeCasts_S6x1x12288_S6x48x64x4)
      transposes_S6x48x64x4_S48x6x4x64_1_0_3_2) shapeCasts_S48x6x4x64_S48x6x256 (ix3 t b k)
      = X (ix3 b 0 ⟨4 * (quadOf t k).val + k.val / 64, by have := (quadOf t k).isLt; omega⟩) := by
  pointwise []
  exact congrArg (fun z => X (ix3 b 0 z)) (Fin.ext (by simp only [quadOf]; omega))

/-- The padding leaves the first six rows as they are. -/
theorem pad_at (X : FVec Ideal S48x6x256 .bf16) (z : FVec Ideal S_ .bf16) (t : Fin 48) (b : Fin 16) (hb : b.val < 6) (k : Fin 256) :
    pad S48x16x256 ![0, 0, 0] ![0, 10, 0] ![0, 0, 0] X z pads_S48x6x256_S48x16x256_000_0100_000 h_S_ (ix3 t b k)
      = X (ix3 t ⟨b.val, hb⟩ k) := by
  pointwise []
  exact dif_pos hb

/-- An element of the arranged inputs is the argument's element at its quad and position. -/
theorem arranged_at (X : FVec Ideal S6x1x12288 .bf16) (t : Fin 48) (b : Fin 16) (hb : b.val < 6) (k : Fin 256) :
    arranged X (ix3 t b k) = X (ix3 ⟨b.val, hb⟩ 0 ⟨4 * (quadOf t k).val + k.val / 64, by have := (quadOf t k).isLt; omega⟩) :=
  (pad_at _ _ t b hb k).trans (unpadded_at X t ⟨b.val, hb⟩ k)

/-- The region's inputs are the arranged argument. -/
theorem entry (c : Dev nD) : V m c main_v3 = arranged (m ((c : Thread nD τ).loc main_arg0)) := by
  simp only [V, V0, hostOps0, hostOps0_1, List.flatten_cons, List.flatten_nil, List.append_nil, List.cons_append, List.nil_append]
  entry_read
  rfl

end Cert.KernelIdeal.Value

end
-- ==== Proof.Masks.lean ====
/- What the precondition says of the mask array: each half of each byte keeps exactly two positions. -/
module

public import proofs.«01_k».proof.Pre_two_of_four
public import proofs.«01_k».proof.Proof.Value

@[expose] public section

set_option maxRecDepth 16384

noncomputable section

namespace Cert.Pre_two_of_four

open Idealize.ShloMosaic Cert.Nibble

/-- The side conditions of the precondition's operations. -/
theorem facts : Facts where
  natLt_8_32 := by decide
  bcast_S_S1536x28672 := by decide

/-- Bit `s` of a mask byte, as a word. -/
def bitWord (w : BitVec 8) (s : Nat) : BitVec 32 :=
  IntOp.andi (IntOp.shrsi .host (w.setWidth 32) (BitVec.ofNat 32 s)) 1#32

/-- The precondition at one mask byte. -/
def fnWord (w : BitVec 8) : BitVec 1 :=
  IntOp.andi
    (IntOp.cmpi .eq (IntOp.addi (IntOp.addi (IntOp.addi (IntOp.andi (w.setWidth 32) 1#32) (bitWord w 1)) (bitWord w 2)) (bitWord w 3)) 2#32)
    (IntOp.cmpi .eq (IntOp.addi (IntOp.addi (IntOp.addi (bitWord w 4) (bitWord w 5)) (bitWord w 6)) (bitWord w 7)) 2#32)

/-- A mask byte that meets the precondition keeps two positions in each of its two halves. -/
theorem fnWord_kept : ∀ (w : BitVec 8) (h : Fin 2), fnWord w = 1#1 → kept (w.extractLsb' (4 * h.val) 4) = 2 := by
  decide +kernel

/-- The precondition at an entry is the precondition of the mask byte there. -/
theorem fn_at [Facts] (X : FVec Ideal S6x1x12288 .bf16) (V : IVec S3072x28672 8) (M : IVec S1536x28672 8)
    (S : FVec Ideal S96x28672 .bf16) (r : Fin 1536) (n : Fin 28672) :
    fn (F := Ideal) X V M S (ix2 r n) = fnWord (M (ix2 r n)) := by
  pointwise [fn, fn_part1, fn_part2]
  rfl

/-- Under the precondition every quad's mask keeps exactly two positions. -/
theorem kept_two [Facts] (X : FVec Ideal S6x1x12288 .bf16) (V : IVec S3072x28672 8) (M : IVec S1536x28672 8)
    (S : FVec Ideal S96x28672 .bf16) (h : fn (F := Ideal) X V M S = fun _ => 1#1) (q : Fin 3072) (n : Fin 28672) :
    kept (Cert.KernelIdeal.Value.mask M q n) = 2 :=
  fnWord_kept _ ⟨q.val % 2, by omega⟩ ((fn_at X V M S ⟨q.val / 2, by omega⟩ n).symm.trans (congrFun h _))

end Cert.Pre_two_of_four

end
-- ==== Proof.Total.lean ====
/- The result both programs compute: one sum over quads and positions, and the two orders in which it is taken. -/
module

public import proofs.«01_k».proof.Proof.Value

@[expose] public section

set_option maxRecDepth 16384

noncomputable section

namespace Cert.KernelIdeal.Value

open Idealize.ShloMosaic Idealize.ShloMosaic.TcCoe Idealize.SL.Sem
open Cert.KernelIdeal Cert.KernelIdeal.Gen Cert.Nibble Cert.KernelIdeal.Tile

/-- The input at position `p` of quad `q`. -/
def input (X : FVec Ideal S6x1x12288 .bf16) (b : Fin 6) (q : Fin 3072) (p : Fin 4) : EReal :=
  X (ix3 b 0 ⟨4 * q.val + p.val, by omega⟩)

/-- The inputs times the dense weights, summed over all quads and positions. -/
def total (X : FVec Ideal S6x1x12288 .bf16) (V : Vec Ideal S3072x28672 .i8) (M : Vec Ideal S1536x28672 .i8)
    (S : Vec Ideal S96x28672 .bf16) (b : Fin 6) (n : Fin 28672) : EReal :=
  ∑ q : Fin 3072, ∑ p : Fin 4, input X b q p * wt V M S q p.val n

/-- A sum over tiles and their rows is the sum over quads and positions. -/
theorem sum_tiles (f : Fin 3072 → Fin 4 → EReal) :
    ∑ t : Fin 48, ∑ k : Fin 256, f (quadOf t k) ⟨k.val / 64, by omega⟩ = ∑ q : Fin 3072, ∑ p : Fin 4, f q p := by
  rw [Fin.sum_univ_tiles 48 64 rfl fun q : Fin 3072 => ∑ p : Fin 4, f q p]
  refine Finset.sum_congr rfl fun t _ => ?_
  rw [Fin.sum_univ_tiles 4 64 rfl fun k : Fin 256 => f (quadOf t k) ⟨k.val / 64, by omega⟩, Finset.sum_comm]
  refine Finset.sum_congr rfl fun q _ => Finset.sum_congr rfl fun p _ => congrArg₂ f (Fin.ext ?_) (Fin.ext ?_)
  · simp only [quadOf]; omega
  · simp only []; omega

/-- Eight sums over the mask's rows, one for each half and position, added one after the other, are the sum over quads and
    positions. -/
theorem sum_halves (f : Fin 3072 → Fin 4 → EReal) (g : Fin 2 → Fin 4 → EReal)
    (hg : ∀ h p, g h p = ∑ r : Fin 1536, f ⟨2 * r.val + h.val, by omega⟩ p) :
    g 0 0 + g 0 1 + g 0 2 + g 0 3 + g 1 0 + g 1 1 + g 1 2 + g 1 3 = ∑ q : Fin 3072, ∑ p : Fin 4, f q p := by
  rw [Fin.sum_univ_tiles 1536 2 rfl fun q : Fin 3072 => ∑ p : Fin 4, f q p, Finset.sum_comm]
  have hh : ∀ h : Fin 2, ∑ r : Fin 1536, ∑ p : Fin 4, f ⟨r.val * 2 + h.val, by omega⟩ p = ∑ p : Fin 4, g h p := by
    intro h
    rw [Finset.sum_comm]
    refine Finset.sum_congr rfl fun p _ => ?_
    rw [hg]
    exact Finset.sum_congr rfl fun r _ => congrArg (f · p) (Fin.ext (by simp only []; omega))
  rw [Fin.sum_univ_two, hh, hh, Fin.sum_univ_four, Fin.sum_univ_four]
  simp only [add_assoc]

/-- The kernel's result array is the total, row by row. -/
theorem product_at (X : FVec Ideal S6x1x12288 .bf16) (V : Vec Ideal S3072x28672 .i8) (M : Vec Ideal S1536x28672 .i8)
    (S : Vec Ideal S96x28672 .bf16) (b : Fin 16) (hb : b.val < 6) (n : Fin 28672) :
    product (arranged X) V M S (ix2 b n) = total X V M S ⟨b.val, hb⟩ n := by
  refine Eq.trans ?_ (sum_tiles fun q p => input X ⟨b.val, hb⟩ q p * wt V M S q p.val n)
  exact Finset.sum_congr rfl fun t _ => Finset.sum_congr rfl fun k _ => congrArg (· * _) (arranged_at X t b hb k)

/-- What the host takes from the region's result array: the total. -/
theorem result_at (X : FVec Ideal S6x1x12288 .bf16) (V : Vec Ideal S3072x28672 .i8) (M : Vec Ideal S1536x28672 .i8)
    (S : Vec Ideal S96x28672 .bf16) (b : Fin 6) (z : Fin 1) (n : Fin 28672) :
    shapeCast S6x1x28672 (extractStridedSlice S6x28672 ![0, 0] (product (arranged X) V M S) slices_S16x28672_S6x28672_0_0)
      shapeCasts_S6x28672_S6x1x28672 (ix3 b z n) = total X V M S b n := by
  refine Eq.trans ?_ (product_at X V M S ⟨b.val, by omega⟩ b.isLt n)
  pointwise []

variable (m : (ℓ : Loc nD τ sig) → Buf (Elt Ideal) ℓ) (ρ : Dev nD → PrngReg)

/-- The host's operations after the region cut the region's result array to the batch's rows. -/
theorem tail_eq (c : Dev nD) : Pipeline.afterTail₀ cfgs (dats m) 0 (V0 m) [hostOps1] c main_v6
    = (shapeCast S6x1x28672 (extractStridedSlice S6x28672 ![0, 0] ((dats m 0 c).arrAt 4 (cfgs 0).N : FVec Ideal S16x28672 .bf16)
        slices_S16x28672_S6x28672_0_0) shapeCasts_S6x28672_S6x1x28672 : FVec Ideal S6x1x28672 .bf16) := by
  have h := Pipeline.withArrays_arr spec0 launch0.win.arr_inj c (V0 m c) (fun w => (dats m 0 c).arrAt w (cfgs 0).N) 4
  unfold Pipeline.afterTail₀
  simp only [hostOps1, List.flatten_cons, List.flatten_nil, List.append_nil, StableHlo.after_cons, StableHlo.after_nil]
  after_results_simp
  exact congrArg (fun a : FVec Ideal S16x28672 .bf16 => shapeCast S6x1x28672 (extractStridedSlice S6x28672 ![0, 0] a
    slices_S16x28672_S6x28672_0_0) shapeCasts_S6x28672_S6x1x28672) h

/-- The kernel's run, where the masks keep two positions of every quad: the result is the total, the arguments unchanged. -/
theorem run (hm : ∀ (c : Dev nD) q n, kept (mask (m ((c : Thread nD τ).loc main_arg2)) q n) = 2) :
    θ_run defs (onTc (τ := τ) (main (F := Ideal))) ⟨m, fun _ => 0, ρ⟩ fun r => ∀ c : Dev nD,
      r.2.mem ((c.tc : Thread nD τ).loc main_v6) = (fun i => total (m ((c : Thread nD τ).loc main_arg0)) (m ((c : Thread nD τ).loc main_arg1))
        (m ((c : Thread nD τ).loc main_arg2)) (m ((c : Thread nD τ).loc main_arg3)) (i 0) (i 2) : FVec Ideal S6x1x28672 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, h.2 c⟩) (θ_run_and (run_main m ρ) (unchanged m ρ))
  refine ((h.1 c).2 main_v6 (Pipeline.mem_restRefs_of main_v6 (by decide) (by decide))).trans ((tail_eq m c).trans ?_)
  rw [final m c (hm c), entry]
  funext i
  idx_vars i
  exact result_at _ _ _ _ _ _ _

end Cert.KernelIdeal.Value

end
-- ==== Proof.Reference.lean ====
/- The reference's result, element by element: the same sum over quads and positions as the kernel's. -/
module

public import proofs.«01_k».proof.Proof.Total
public import proofs.«01_k».proof.Proof.Gen.ReferenceIdeal

@[expose] public section

set_option maxRecDepth 16384

noncomputable section

namespace Cert.ReferenceIdeal.Term

open Idealize.ShloMosaic Idealize.ShloMosaic.TcCoe Idealize.SL.Sem
open Cert.ReferenceIdeal Cert.ReferenceIdeal.Gen Cert.Nibble
open Cert.KernelIdeal.Value (wt mask total input sum_halves)

/-! ## The reference's operations -/

/-- The code bytes as words, a pair of quads to a row. -/
def bytes (V : Vec Ideal S3072x28672 .i8) : IVec S1536x2x28672 32 :=
  shapeCast S1536x2x28672 (extui 32 (V : IVec S3072x28672 8) natLt_8_32) shapeCasts_S3072x28672_S1536x2x28672

/-- The scales, each sixteen times. -/
def scales (S : FVec Ideal S96x28672 .bf16) : FVec Ideal S1536x1x28672 .bf16 :=
  broadcastInDim S1536x1x28672 ![0, 2] bcast_S1536x28672_S1536x1x28672_0_2
    (shapeCast S1536x28672 (broadcastInDim S96x16x28672 ![0, 2] bcast_S96x28672_S96x16x28672_0_2 S) shapeCasts_S96x16x28672_S1536x28672)

/-- Codes less eight, times the scales. -/
def scaled (c : IVec S1536x2x28672 32) (S : FVec Ideal S96x28672 .bf16) : FVec Ideal S1536x2x28672 .bf16 :=
  mulf (subf (sitofp .bf16 (andi c (broadcastInDim S1536x2x28672 ![] bcast_S_S1536x2x28672 (constantI S_ 32 15#32))))
      (broadcastInDim S1536x2x28672 ![] bcast_S_S1536x2x28672 (constant S_ .bf16 0x4100#16)))
    (broadcastInDim S1536x2x28672 ![0, 1, 2] bcast_S1536x1x28672_S1536x2x28672_0_1_2 (scales S))

/-- The first values of the quads. -/
def first (V : Vec Ideal S3072x28672 .i8) (S : FVec Ideal S96x28672 .bf16) : FVec Ideal S1536x2x28672 .bf16 := scaled (bytes V) S

/-- The second values of the quads. -/
def second (V : Vec Ideal S3072x28672 .i8) (S : FVec Ideal S96x28672 .bf16) : FVec Ideal S1536x2x28672 .bf16 :=
  scaled (Host.shrsi (bytes V) (broadcastInDim S1536x2x28672 ![] bcast_S_S1536x2x28672 (constantI S_ 32 4#32))) S

/-- Either half of the pairs of quads is a slice of the array. -/
theorem slices_half (h : Fin 2) : S1536x2x28672.Slices ![0, h.val, 0] S1536x1x28672 := by
  fin_cases h
  · exact slices_S1536x2x28672_S1536x1x28672_0_0_0
  · exact slices_S1536x2x28672_S1536x1x28672_0_1_0

/-- The values of one quad of every pair. -/
def half (h : Fin 2) (v : FVec Ideal S1536x2x28672 .bf16) : FVec Ideal S1536x28672 .bf16 :=
  shapeCast S1536x28672 (extractStridedSlice S1536x1x28672 ![0, h.val, 0] v (slices_half h)) shapeCasts_S1536x1x28672_S1536x28672

/-- Whether bit `s` of a mask byte is set. -/
def bit (M : Vec Ideal S1536x28672 .i8) (s : Nat) : IVec S1536x28672 1 :=
  cmpi .ne (andi (Host.shrsi (extui 32 (M : IVec S1536x28672 8) natLt_8_32)
      (broadcastInDim S1536x28672 ![] bcast_S_S1536x28672 (constantI S_ 32 (BitVec.ofNat 32 s))))
    (broadcastInDim S1536x28672 ![] bcast_S_S1536x28672 (constantI S_ 32 1#32)))
    (broadcastInDim S1536x28672 ![] bcast_S_S1536x28672 (constantI S_ 32 0#32))

/-- Whether a position below the `p`-th of half `h` is kept. -/
def below (M : Vec Ideal S1536x28672 .i8) (h : Nat) : Nat → IVec S1536x28672 1
  | 0 => broadcastInDim S1536x28672 ![] bcast_S_S1536x28672 (constantI S_ 1 0#1)
  | p + 1 => ori (below M h p) (bit M (4 * h + p))

/-- The weights of position `p` of half `h`. -/
def weights (V : Vec Ideal S3072x28672 .i8) (M : Vec Ideal S1536x28672 .i8) (S : FVec Ideal S96x28672 .bf16) (h : Fin 2) (p : Nat) :
    FVec Ideal S1536x28672 .bf16 :=
  select (bit M (4 * h.val + p)) (select (below M h.val p) (half h (second V S)) (half h (first V S)))
    (broadcastInDim S1536x28672 ![] bcast_S_S1536x28672 (constant S_ .bf16 0x0000#16))

/-- Each half and position of the activations is a slice of their array. -/
theorem slices_pos (h : Fin 2) (p : Fin 4) : S6x1x1536x2x4.Slices ![0, 0, 0, h.val, p.val] S6x1x1536x1x1 := by
  fin_cases h <;> fin_cases p
  · exact slices_S6x1x1536x2x4_S6x1x1536x1x1_0_0_0_0_0
  · exact slices_S6x1x1536x2x4_S6x1x1536x1x1_0_0_0_0_1
  · exact slices_S6x1x1536x2x4_S6x1x1536x1x1_0_0_0_0_2
  · exact slices_S6x1x1536x2x4_S6x1x1536x1x1_0_0_0_0_3
  · exact slices_S6x1x1536x2x4_S6x1x1536x1x1_0_0_0_1_0
  · exact slices_S6x1x1536x2x4_S6x1x1536x1x1_0_0_0_1_1
  · exact slices_S6x1x1536x2x4_S6x1x1536x1x1_0_0_0_1_2
  · exact slices_S6x1x1536x2x4_S6x1x1536x1x1_0_0_0_1_3

/-- The product of position `p` of half `h`. -/
def prod (X : FVec Ideal S6x1x12288 .bf16) (V : Vec Ideal S3072x28672 .i8) (M : Vec Ideal S1536x28672 .i8)
    (S : FVec Ideal S96x28672 .bf16) (h : Fin 2) (p : Fin 4) : FVec Ideal S6x1x28672 .f32 :=
  Host.dotGeneral dot_S6x1x1536_S1536x28672_S6x1x28672_2_0_01_1_n_n none
    (shapeCast S6x1x1536 (extractStridedSlice S6x1x1536x1x1 ![0, 0, 0, h.val, p.val]
      (shapeCast S6x1x1536x2x4 X shapeCasts_S6x1x12288_S6x1x1536x2x4) (slices_pos h p)) shapeCasts_S6x1x1536x1x1_S6x1x1536)
    (weights V M S h p.val)

/-- The reference's result. -/
def result (X : FVec Ideal S6x1x12288 .bf16) (V : Vec Ideal S3072x28672 .i8) (M : Vec Ideal S1536x28672 .i8)
    (S : FVec Ideal S96x28672 .bf16) : FVec Ideal S6x1x28672 .bf16 :=
  truncf .bf16 (addf (addf (addf (addf (addf (addf (addf (prod X V M S 0 0) (prod X V M S 0 1)) (prod X V M S 0 2))
    (prod X V M S 0 3)) (prod X V M S 1 0)) (prod X V M S 1 1)) (prod X V M S 1 2)) (prod X V M S 1 3)) bitsLt_bf16_f32

/-! ## Element by element -/

/-- A scaled value: the code less 8, times the scale of its group. -/
theorem scaled_at (c : IVec S1536x2x28672 32) (S : FVec Ideal S96x28672 .bf16) (r : Fin 1536) (h : Fin 2) (n : Fin 28672) :
    scaled c S (ix3 r h n) = ((((c (ix3 r h n) &&& 15#32).toInt : ℝ) : EReal) - Ideal.ofBits .bf16 0x4100#16)
      * S (ix2 ⟨r.val / 16, by omega⟩ n) := by
  pointwise [scaled, scales]
  rfl

/-- An entry of one half of the quads. -/
theorem half_at (h : Fin 2) (v : FVec Ideal S1536x2x28672 .bf16) (r : Fin 1536) (n : Fin 28672) :
    half h v (ix2 r n) = v (ix3 r h n) := by
  pointwise [half]

/-- The code bytes, widened, pair by pair. -/
theorem bytes_at (V : Vec Ideal S3072x28672 .i8) (r : Fin 1536) (h : Fin 2) (n : Fin 28672) :
    bytes V (ix3 r h n) = (V (ix2 ⟨2 * r.val + h.val, by omega⟩ n)).setWidth 32 := by
  pointwise [bytes]
  exact congrArg (fun z => BitVec.setWidth 32 (V (ix2 z n))) (Fin.ext (by simp only []; omega))

/-- The reference's test of a bit of a mask byte is that bit. -/
theorem bit_word : ∀ (s : Fin 8) (w : BitVec 8),
    IntOp.cmpi .ne (IntOp.andi (IntOp.shrsi .host (w.setWidth 32) (BitVec.ofNat 32 s.val)) 1#32) 0#32 = BitVec.ofBool (w.getLsbD s.val) := by
  decide +kernel

/-- The low four bits of a code byte, as a signed word, are the byte's low field. -/
theorem low_word : ∀ w : BitVec 8, (w.setWidth 32 &&& 15#32).toInt = ((w.extractLsb' 0 4).toNat : Int) := by decide +kernel

/-- The high four bits of a code byte, as a signed word, are the byte's high field. -/
theorem high_word : ∀ w : BitVec 8,
    (IntOp.shrsi .host (w.setWidth 32) 4#32 &&& 15#32).toInt = ((w.extractLsb' 4 4).toNat : Int) := by decide +kernel

/-- The reference's mask bit at an entry is the bit of the mask byte there. -/
theorem bit_at (M : Vec Ideal S1536x28672 .i8) (s : Nat) (hs : s < 8) (r : Fin 1536) (n : Fin 28672) :
    bit M s (ix2 r n) = BitVec.ofBool ((M (ix2 r n)).getLsbD s) := by
  pointwise [bit]
  exact bit_word ⟨s, hs⟩ _

/-- The bf16 constant 8. -/
theorem eight : Ideal.ofBits .bf16 0x4100#16 = ((8 : ℝ) : EReal) := by
  simp [Ideal.ofBits, Ideal.ieee, -EReal.coe_mul]
  norm_num

/-- Selection by a bit is a choice by the truth value it stands for. -/
theorem select_bool (c : Bool) (x y : EReal) : Scalar.select (BitVec.ofBool c) x y = if c then x else y := by
  cases c <;> rfl

/-- The mask bits of half `h` of a byte. -/
theorem mask_bit (M : Vec Ideal S1536x28672 .i8) (r : Fin 1536) (h : Fin 2) (p : Nat) (hp : p < 4) (n : Fin 28672) :
    (M (ix2 r n)).getLsbD (4 * h.val + p) = (mask M ⟨2 * r.val + h.val, by omega⟩ n).getLsbD p := by
  unfold mask
  rw [BitVec.getLsbD_extractLsb']
  simp only [hp, decide_true, Bool.true_and, show (2 * r.val + h.val) % 2 = h.val by omega, show (2 * r.val + h.val) / 2 = r.val by omega]

/-- The reference's `below` says whether an earlier position of the quad is kept. -/
theorem below_at (M : Vec Ideal S1536x28672 .i8) (r : Fin 1536) (h : Fin 2) (n : Fin 28672) : ∀ (p : Nat) (hp : p ≤ 4),
    below M h.val p (ix2 r n) = BitVec.ofBool ((List.range p).any fun q => (mask M ⟨2 * r.val + h.val, by omega⟩ n).getLsbD q)
  | 0, _ => rfl
  | p + 1, hp => by
    refine (congrArg₂ (· ||| ·) (below_at M r h n p (Nat.le_of_succ_le hp))
      ((bit_at M (4 * h.val + p) (by omega) r n).trans (congrArg BitVec.ofBool (mask_bit M r h p hp n)))).trans ?_
    rw [List.range_succ, List.any_append, List.any_cons, List.any_nil, Bool.or_false]
    exact BitVec.ofBool_or_ofBool

/-- A quad's value: its code less eight, times its scale. -/
theorem value_at (c : IVec S1536x2x28672 32) (S : FVec Ideal S96x28672 .bf16) (r : Fin 1536) (h : Fin 2) (n : Fin 28672) (k : Nat)
    (hk : (c (ix3 r h n) &&& 15#32).toInt = (k : Int)) :
    scaled c S (ix3 r h n) = ((((k : Int) - 8 : Int) : ℝ) : EReal) * S (ix2 ⟨(2 * r.val + h.val) / 32, by omega⟩ n) := by
  rw [scaled_at, hk, eight, ← EReal.coe_sub]
  refine congrArg₂ (· * ·) (congrArg _ (by push_cast; ring)) (congrArg (fun z => S (ix2 z n)) (Fin.ext (by simp only []; omega)))

/-- The reference's weights are the dense weights. -/
theorem weights_at (V : Vec Ideal S3072x28672 .i8) (M : Vec Ideal S1536x28672 .i8) (S : FVec Ideal S96x28672 .bf16)
    (h : Fin 2) (p : Fin 4) (r : Fin 1536) (n : Fin 28672) :
    weights V M S h p.val (ix2 r n) = wt V M S ⟨2 * r.val + h.val, by omega⟩ p.val n := by
  have hb := (bit_at M (4 * h.val + p.val) (by omega) r n).trans (congrArg BitVec.ofBool (mask_bit M r h p.val p.isLt n))
  have hl := below_at M r h n p.val (by omega)
  have h1 : half h (first V S) (ix2 r n) = _ := (half_at h _ r n).trans
    (value_at _ S r h n _ ((congrArg (fun w => (w &&& 15#32).toInt) (bytes_at V r h n)).trans (low_word _)))
  have h2 : half h (second V S) (ix2 r n) = _ := (half_at h _ r n).trans
    (value_at _ S r h n _ ((congrArg (fun w => (IntOp.shrsi .host w 4#32 &&& 15#32).toInt) (bytes_at V r h n)).trans (high_word _)))
  pointwise [weights]
  rw [hb, hl, h1, h2]
  unfold wt code
  rw [select_bool, select_bool]
  by_cases hc : (mask M ⟨2 * r.val + h.val, by omega⟩ n).getLsbD p.val = true
  · rw [if_pos hc, if_pos hc]
    split_ifs <;> rfl
  · rw [if_neg hc, if_neg hc, Int.cast_zero, EReal.coe_zero, zero_mul]

/-- One product of the reference: the sum over the pairs of quads, for one half and one position. -/
theorem prod_at (X : FVec Ideal S6x1x12288 .bf16) (V : Vec Ideal S3072x28672 .i8) (M : Vec Ideal S1536x28672 .i8)
    (S : FVec Ideal S96x28672 .bf16) (h : Fin 2) (p : Fin 4) (b : Fin 6) (z : Fin 1) (n : Fin 28672) :
    prod X V M S h p (ix3 b z n) = ∑ r : Fin 1536, input X b ⟨2 * r.val + h.val, by omega⟩ p
      * wt V M S ⟨2 * r.val + h.val, by omega⟩ p.val n := by
  pointwise [prod]
  refine Finset.sum_congr rfl fun r _ => congrArg₂ (· * ·) ?_ (weights_at V M S h p r n)
  exact congrArg (fun z => X (ix3 b 0 z)) (Fin.ext (by simp only []; omega))

/-- The reference's result is the total. -/
theorem result_at (X : FVec Ideal S6x1x12288 .bf16) (V : Vec Ideal S3072x28672 .i8) (M : Vec Ideal S1536x28672 .i8)
    (S : FVec Ideal S96x28672 .bf16) (b : Fin 6) (z : Fin 1) (n : Fin 28672) :
    result X V M S (ix3 b z n) = total X V M S b n :=
  sum_halves (fun q p => input X b q p * wt V M S q p.val n) (fun h p => prod X V M S h p (ix3 b z n))
    fun h p => prod_at X V M S h p b z n

end Cert.ReferenceIdeal.Term

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Masks
public import proofs.«01_k».proof.Proof.Total
public import proofs.«01_k».proof.Proof.Reference
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.SL.Sem Cert.Kernel

/-- The two row rewrites of the scales' words keep every bit of what the kernel reads. -/
theorem preserves : Cert.preserves_Kernel_KernelIdeal :=
  ⟨IdealRules.bf16_pair.statement _ _, IdealRules.bf16_pair.statement _ _⟩

/-- The reference runs to the end, leaves its arguments as they were and every semaphore counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the total, entry by entry. -/
theorem result_eq (X : FVec Ideal Cert.KernelIdeal.S6x1x12288 .bf16) (V : Vec Ideal Cert.KernelIdeal.S3072x28672 .i8)
    (M : Vec Ideal Cert.KernelIdeal.S1536x28672 .i8) (S : Vec Ideal Cert.KernelIdeal.S96x28672 .bf16) :
    Cert.ReferenceIdeal.Term.result X V M S = fun i => Cert.KernelIdeal.Value.total X V M S (i 0) (i 2) := by
  funext i
  idx_vars i
  exact Cert.ReferenceIdeal.Term.result_at X V M S _ _ _

/-- Where every mask keeps exactly two positions of its quad, the idealized kernel and the reference end with the same
    result, for any inputs, codes and scales. -/
theorem algebraic : Cert.algebraic_KernelIdeal_ReferenceIdeal_pre_two_of_four (hKernelIdeal := Cert.KernelIdeal.Gen.facts)
    (hReferenceIdeal := Cert.ReferenceIdeal.Gen.facts) (hPre_two_of_four := Cert.Pre_two_of_four.facts) := by
  haveI := Cert.Pre_two_of_four.facts
  intro m g m' g' hpre hagree
  refine ⟨_, Cert.KernelIdeal.Value.run m g (fun c q n => Cert.Pre_two_of_four.kept_two _ _ _ _ (hpre c) q n), ?_⟩
  refine (θ_run Cert.ReferenceIdeal.defs _ _).mono (fun r h c => ⟨(h c).1.trans ?_, (h c).2⟩)
    (Cert.ReferenceIdeal.Value.run (F := Ideal) m' g')
  have e := result_eq (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
  refine Eq.trans ?_ (e.trans ?_)
  · rfl
  · rw [(hagree c).1, (hagree c).2.1, (hagree c).2.2.1, (hagree c).2.2.2]

/-- Everything this certificate claims. -/
theorem claim : Cert.Claim := ⟨Cert.Kernel.Gen.facts, Cert.KernelIdeal.Gen.facts, Cert.ReferenceIdeal.Gen.facts, Cert.Pre_two_of_four.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
